-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_parameters_above_minus_infinity [hPre_decay_parameters_above_minus_infinity : Cert.Pre_decay_parameters_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_decay_parameters_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_parameters_above_minus_infinity [hPre_decay_parameters_above_minus_infinity : Cert.Pre_decay_parameters_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_parameters_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_decay_parameters_above_minus_infinity [hKernelIdeal : Cert.KernelIdeal.Facts] [hPre_decay_parameters_above_minus_infinity : Cert.Pre_decay_parameters_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_parameters_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_decay_parameters_above_minus_infinity [hReferenceIdeal : Cert.ReferenceIdeal.Facts] [hPre_decay_parameters_above_minus_infinity : Cert.Pre_decay_parameters_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_parameters_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "half_log2e" .f32 0x3F38AA3B#32 (((1 / 2) * (Real.log 2)⁻¹ : ℝ) : EReal)
  ∧ IdealRules.named_const.Statement Cert.KernelIdeal.κ "guard" .f32 0x0DA24260#32 ⊥

def algebraic_KernelIdeal_ReferenceIdeal_pre_decay_parameters_above_minus_infinity [hKernelIdeal : Cert.KernelIdeal.Facts] [hReferenceIdeal : Cert.ReferenceIdeal.Facts] [hPre_decay_parameters_above_minus_infinity : Cert.Pre_decay_parameters_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_parameters_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_decay_parameters_above_minus_infinity : Cert.Pre_decay_parameters_above_minus_infinity.Facts),
    quiescent_Kernel (hKernel := hKernel)
    ∧ quiescent_KernelIdeal (hKernelIdeal := hKernelIdeal)
    ∧ quiescent_KernelIdeal_pre_decay_parameters_above_minus_infinity (hKernelIdeal := hKernelIdeal) (hPre_decay_parameters_above_minus_infinity := hPre_decay_parameters_above_minus_infinity)
    ∧ quiescent_ReferenceIdeal (hReferenceIdeal := hReferenceIdeal)
    ∧ quiescent_ReferenceIdeal_pre_decay_parameters_above_minus_infinity (hReferenceIdeal := hReferenceIdeal) (hPre_decay_parameters_above_minus_infinity := hPre_decay_parameters_above_minus_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_decay_parameters_above_minus_infinity (hKernelIdeal := hKernelIdeal) (hReferenceIdeal := hReferenceIdeal) (hPre_decay_parameters_above_minus_infinity := hPre_decay_parameters_above_minus_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_decay_parameters_above_minus_infinity.lean ====
abbrev S8x2048x1024 : Shape := ⟨3, ![8, 2048, 1024]⟩
abbrev S4x1024 : Shape := ⟨2, ![4, 1024]⟩
abbrev S2x1024x2048 : Shape := ⟨3, ![2, 1024, 2048]⟩
abbrev S2x2048 : Shape := ⟨2, ![2, 2048]⟩
abbrev S2x4x1024 : Shape := ⟨3, ![2, 4, 1024]⟩
abbrev S2x1024 : Shape := ⟨2, ![2, 1024]⟩
abbrev S2x8x128x128 : Shape := ⟨4, ![2, 8, 128, 128]⟩
abbrev S2x8x128 : Shape := ⟨3, ![2, 8, 128]⟩
abbrev S1x1024 : Shape := ⟨2, ![1, 1024]⟩
abbrev S1024 : Shape := ⟨1, ![1024]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)

variable [Facts]

def fn {F : FTy → Type} [FloatOps F] (main_arg0 : FVec F S8x2048x1024 .f32) (main_arg1 : FVec F S4x1024 .f32) (main_arg2 : FVec F S2x1024x2048 .f32) (main_arg3 : FVec F S2x2048 .f32) (main_arg4 : FVec F S2x4x1024 .f32) (main_arg5 : FVec F S2x1024 .f32) (main_arg6 : FVec F S2x8x128x128 .f32) (main_arg7 : FVec F S2x8x128 .f32) (main_arg8 : FVec F S2x8x128x128 .f32) (main_arg9 : FVec F S2x8x128 .f32) (main_arg10 : FVec F S2x1024 .f32) : IVec S1024 1 :=
  let main_v0 : FVec F S1x1024 .f32 := (extractStridedSlice S1x1024 ![0, 0] · slices_S2x1024_S1x1024_0_0) main_arg10
  let main_v1 : FVec F S1024 .f32 := shapeCast S1024 main_v0 shapeCasts_S1x1024_S1024
  let main_cst : FVec F S_ .f32 := constant S_ .f32 0xFF800000#32
  let main_v2 : FVec F S1024 .f32 := broadcastInDim S1024 ![] bcast_S_S1024 main_cst
  let main_v3 : IVec S1024 1 := cmpf .ogt main_v1 main_v2
  main_v3
-- ==== Kernel.lean ====
abbrev S8x2048x1024 : Shape := ⟨3, ![8, 2048, 1024]⟩
abbrev S4x1024 : Shape := ⟨2, ![4, 1024]⟩
abbrev S2x1024x2048 : Shape := ⟨3, ![2, 1024, 2048]⟩
abbrev S2x2048 : Shape := ⟨2, ![2, 2048]⟩
abbrev S2x4x1024 : Shape := ⟨3, ![2, 4, 1024]⟩
abbrev S2x1024 : Shape := ⟨2, ![2, 1024]⟩
abbrev S2x8x128x128 : Shape := ⟨4, ![2, 8, 128, 128]⟩
abbrev S2x8x128 : Shape := ⟨3, ![2, 8, 128]⟩
abbrev S1x8x128x128 : Shape := ⟨4, ![1, 8, 128, 128]⟩
abbrev S8x128x128 : Shape := ⟨3, ![8, 128, 128]⟩
abbrev S8x128x256 : Shape := ⟨3, ![8, 128, 256]⟩
abbrev S_ : Shape := ⟨0, ![]⟩
abbrev S1x8x128 : Shape := ⟨3, ![1, 8, 128]⟩
abbrev S8x128 : Shape := ⟨2, ![8, 128]⟩
abbrev S8x256 : Shape := ⟨2, ![8, 256]⟩
abbrev S8x1x256 : Shape := ⟨3, ![8, 1, 256]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S1x4x1024 : Shape := ⟨3, ![1, 4, 1024]⟩
abbrev S8x64x1024 : Shape := ⟨3, ![8, 64, 1024]⟩
abbrev S1x1024x2048 : Shape := ⟨3, ![1, 1024, 2048]⟩
abbrev S536x1024 : Shape := ⟨2, ![536, 1024]⟩
abbrev S512x1024 : Shape := ⟨2, ![512, 1024]⟩
abbrev S8x1024 : Shape := ⟨2, ![8, 1024]⟩
abbrev S1024x2048 : Shape := ⟨2, ![1024, 2048]⟩
abbrev S24x1024 : Shape := ⟨2, ![24, 1024]⟩
abbrev S1x1024x1024 : Shape := ⟨3, ![1, 1024, 1024]⟩
abbrev S1024x1024 : Shape := ⟨2, ![1024, 1024]⟩
abbrev S64x64 : Shape := ⟨2, ![64, 64]⟩
abbrev S64x1024 : Shape := ⟨2, ![64, 1024]⟩
abbrev S64 : Shape := ⟨1, ![64]⟩
abbrev S64x1 : Shape := ⟨2, ![64, 1]⟩
abbrev S256x1024 : Shape := ⟨2, ![256, 1024]⟩
abbrev S256x2048 : Shape := ⟨2, ![256, 2048]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S1x128 : Shape := ⟨2, ![1, 128]⟩
abbrev S1x64x1024 : Shape := ⟨3, ![1, 64, 1024]⟩

abbrev nBuf : Space → Nat
  | .hbm => 44
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S2x1024x2048, .f32⟩
  | .hbm, ⟨3, _⟩ => ⟨S2x2048, .f32⟩
  | .hbm, ⟨4, _⟩ => ⟨S2x4x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x8x128x128, .f32⟩
  | .hbm, ⟨9, _⟩ => ⟨S2x8x128, .f32⟩
  | .hbm, ⟨10, _⟩ => ⟨S2x1024, .f32⟩
  | .hbm, ⟨11, _⟩ => ⟨S1x8x128x128, .f32⟩
  | .hbm, ⟨12, _⟩ => ⟨S8x128x128, .f32⟩
  | .hbm, ⟨13, _⟩ => ⟨S1x8x128x128, .f32⟩
  | .hbm, ⟨14, _⟩ => ⟨S8x128x128, .f32⟩
  | .hbm, ⟨15, _⟩ => ⟨S8x128x256, .f32⟩
  | .hbm, ⟨16, _⟩ => ⟨S_, .f32⟩
  | .hbm, ⟨17, _⟩ => ⟨S8x128x256, .f32⟩
  | .hbm, ⟨18, _⟩ => ⟨S8x128x256, .f32⟩
  | .hbm, ⟨19, _⟩ => ⟨S8x128x256, .bf16⟩
  | .hbm, ⟨20, _⟩ => ⟨S1x8x128, .f32⟩
  | .hbm, ⟨21, _⟩ => ⟨S8x128, .f32⟩
  | .hbm, ⟨22, _⟩ => ⟨S1x8x128, .f32⟩
  | .hbm, ⟨23, _⟩ => ⟨S8x128, .f32⟩
  | .hbm, ⟨24, _⟩ => ⟨S8x256, .f32⟩
  | .hbm, ⟨25, _⟩ => ⟨S8x1x256, .f32⟩
  | .hbm, ⟨26, _⟩ => ⟨S_, .f32⟩
  | .hbm, ⟨27, _⟩ => ⟨S8x1x256, .f32⟩
  | .hbm, ⟨28, _⟩ => ⟨S8x1x256, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S1x4x1024, .f32⟩
  | .hbm, ⟨36, _⟩ => ⟨S4x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S8x2048x1024, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1x1024x2048, .f32⟩
  | .local _ .vmem, ⟨4, _⟩ => ⟨S1x2048, .f32⟩
  | .local _ .vmem, ⟨5, _⟩ => ⟨S4x1024, .f32⟩
  | .local _ .vmem, ⟨6, _⟩ => ⟨S1x1024, .f32⟩
  | .local _ .vmem, ⟨7, _⟩ => ⟨S8x128x256, .bf16⟩
  | .local _ .vmem, ⟨8, _⟩ => ⟨S8x1x256, .f32⟩
  | .local _ .vmem, ⟨9, _⟩ => ⟨S1x1024, .f32⟩
  | .local _ .vmem, ⟨10, _⟩ => ⟨S8x64x1024, .bf16⟩
  | .local _ .vmem, ⟨11, _⟩ => ⟨S8x64x1024, .bf16⟩
  | .local _ .vmem, ⟨12, _⟩ => ⟨S536x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S1024x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_357 : BitVec 32 := 0#32
  let c64_i32 : BitVec 32 := 64#32
  let v979 : BitVec 32 := Scalar.addi c0_i32_357 c64_i32
  let c1_i32 : BitVec 32 := 1#32
  ⟨c0_i32_357, v979, c1_i32⟩
def k0_mult1 (k0_t1 : Fin k0_t1_loop.trips) : BitVec 32 :=
  let c0_i32_357 : BitVec 32 := 0#32
  let c1_i32 : BitVec 32 := 1#32
  let arg18 : BitVec 32 := Scf.iv c0_i32_357 c1_i32 k0_t1
  let c8_i32 : BitVec 32 := 8#32
  let v1128 : BitVec 32 := Scalar.muli arg18 c8_i32
  v1128
def k0_off1 (k0_t1 : Fin k0_t1_loop.trips) : Fin 2 → Nat :=
  let c0_i32_357 : BitVec 32 := 0#32
  let c1_i32 : BitVec 32 := 1#32
  let arg18 : BitVec 32 := Scf.iv c0_i32_357 c1_i32 k0_t1
  let c8_i32 : BitVec 32 := 8#32
  let v1128 : BitVec 32 := Scalar.muli arg18 c8_i32
  let v1129 : BitVec 32 := v1128
  let v1130 : Index := Scalar.indexCast v1129
  let c0_421 : Index := 0#32
  ![v1130.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "guard" => some ⊥
  | "half_log2e" => some (((1 / 2) * (Real.log 2)⁻¹ : ℝ) : EReal)
  | _ => none
-- ==== ReferenceIdeal.lean ====
abbrev S8x2048x1024 : Shape := ⟨3, ![8, 2048, 1024]⟩
abbrev S4x1024 : Shape := ⟨2, ![4, 1024]⟩
abbrev S2x1024x2048 : Shape := ⟨3, ![2, 1024, 2048]⟩
abbrev S2x2048 : Shape := ⟨2, ![2, 2048]⟩
abbrev S2x4x1024 : Shape := ⟨3, ![2, 4, 1024]⟩
abbrev S2x1024 : Shape := ⟨2, ![2, 1024]⟩
abbrev S2x8x128x128 : Shape := ⟨4, ![2, 8, 128, 128]⟩
abbrev S2x8x128 : Shape := ⟨3, ![2, 8, 128]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x2048x2048 : Shape := ⟨3, ![8, 2048, 2048]⟩
abbrev S1x2048 : Shape := ⟨2, ![1, 2048]⟩
abbrev S2048 : Shape := ⟨1, ![2048]⟩
abbrev S1x1x2048 : Shape := ⟨3, ![1, 1, 2048]⟩
abbrev S8x2051x1024 : Shape := ⟨3, ![8, 2051, 1024]⟩
abbrev S8x2048x8x128 : Shape := ⟨4, ![8, 2048, 8, 128]⟩
abbrev S1x8x128x128 : Shape := ⟨4, ![1, 8, 128, 128]⟩
abbrev S8x128x128 : Shape := ⟨3, ![8, 128, 128]⟩
abbrev S8x128x8x2048 : Shape := ⟨4, ![8, 128, 8, 2048]⟩
abbrev S1x8x128 : Shape := ⟨3, ![1, 8, 128]⟩
abbrev S8x128 : Shape := ⟨2, ![8, 128]⟩
abbrev S1x1x8x128 : Shape := ⟨4, ![1, 1, 8, 128]⟩
abbrev S8x1024 : Shape := ⟨2, ![8, 1024]⟩
abbrev S8x1x1024 : Shape := ⟨3, ![8, 1, 1024]⟩
abbrev S2048x1 : Shape := ⟨2, ![2048, 1]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S4x1024, .f32⟩
  | 2 => ⟨S2x1024x2048, .f32⟩
  | 3 => ⟨S2x2048, .f32⟩
  | 4 => ⟨S2x4x1024, .f32⟩
  | 5 => ⟨S2x1024, .f32⟩
  | 6 => ⟨S2x8x128x128, .f32⟩
  | 7 => ⟨S2x8x128, .f32⟩
  | 8 => ⟨S2x8x128x128, .f32⟩
  | 9 => ⟨S2x8x128, .f32⟩
  | 10 => ⟨S2x1024, .f32⟩
  | 11 => ⟨S1x1024, .f32⟩
  | 12 => ⟨S1024, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x1024, .f32⟩
  | 25 => ⟨S8x2048x1024, .f32⟩
  | 26 => ⟨S1x1x1024, .f32⟩
  | 27 => ⟨S8x2048x1024, .f32⟩
  | 28 => ⟨S8x2048x1024, .f32⟩
  | 29 => ⟨S1x1024x2048, .f32⟩
  | 30 => ⟨S1024x2048, .f32⟩
  | 31 => ⟨S8x2048x2048, .f32⟩
  | 32 => ⟨S1x2048, .f32⟩
  | 33 => ⟨S2048, .f32⟩
  | 34 => ⟨S1x1x2048, .f32⟩
  | 35 => ⟨S8x2048x2048, .f32⟩
  | 36 => ⟨S8x2048x2048, .f32⟩
  | 37 => ⟨S8x2048x1024, .f32⟩
  | 38 => ⟨S8x2048x1024, .f32⟩
  | 39 => ⟨S8x2048x1024, .f32⟩
  | 40 => ⟨S8x2048x1024, .f32⟩
  | 41 => ⟨S_, .f32⟩
  | 42 => ⟨S8x2048x1024, .f32⟩
  | 43 => ⟨S8x2048x1024, .f32⟩
  | 44 => ⟨S8x2048x1024, .f32⟩
  | 45 => ⟨S_, .f32⟩
  | 46 => ⟨S8x2048x1024, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S8x2048x1024, .f32⟩
  | 56 => ⟨S_, .i32⟩
  | 57 => ⟨S_, .f32⟩
  | 58 => ⟨S8x2051x1024, .f32⟩
  | 59 => ⟨S1x1024, .f32⟩
  | 60 => ⟨S1024, .f32⟩
  | 61 => ⟨S8x2048x1024, .f32⟩
  | 62 => ⟨S1x1x1024, .f32⟩
  | 63 => ⟨S1024, .f32⟩
  | 64 => ⟨S1x1x1024, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S8x2048x1024, .f32⟩
  | 71 => ⟨S1x1x1024, .f32⟩
  | 72 => ⟨S1024, .f32⟩
  | 73 => ⟨S1x1x1024, .f32⟩
  | 74 => ⟨S8x2048x1024, .f32⟩
  | 75 => ⟨S8x2048x1024, .f32⟩
  | 76 => ⟨S8x2048x1024, .f32⟩
  | 77 => ⟨S8x2048x1024, .f32⟩
  | 78 => ⟨S1x1x1024, .f32⟩
  | 79 => ⟨S1024, .f32⟩
  | 80 => ⟨S1x1x1024, .f32⟩
  | 81 => ⟨S8x2048x1024, .f32⟩
  | 82 => ⟨S8x2048x1024, .f32⟩
  | 83 => ⟨S8x2048x1024, .f32⟩
  | 84 => ⟨S8x2048x1024, .f32⟩
  | 85 => ⟨S1x1x1024, .f32⟩
  | 86 => ⟨S1024, .f32⟩
  | 87 => ⟨S1x1x1024, .f32⟩
  | 88 => ⟨S8x2048x1024, .f32⟩
  | 89 => ⟨S8x2048x1024, .f32⟩
  | 90 => ⟨S8x2048x1024, .f32⟩
  | 91 => ⟨S8x2048x8x128, .f32⟩
  | 92 => ⟨S1x8x128x128, .f32⟩
  | 93 => ⟨S8x128x128, .f32⟩
  | 94 => ⟨S8x128x8x2048, .f32⟩
  | 95 => ⟨S8x2048x8x128, .f32⟩
  | 96 => ⟨S1x8x128, .f32⟩
  | 97 => ⟨S8x128, .f32⟩
  | 98 => ⟨S1x1x8x128, .f32⟩
  | 99 => ⟨S8x2048x8x128, .f32⟩
  | 100 => ⟨S8x2048x8x128, .f32⟩
  | 101 => ⟨S8x2048x8x128, .f32⟩
  | 102 => ⟨S8x2048x8x128, .f32⟩
  | 103 => ⟨S_, .f32⟩
  | 104 => ⟨S8x2048x8x128, .f32⟩
  | 105 => ⟨S8x2048x8x128, .f32⟩
  | 106 => ⟨S_, .f32⟩
  | 107 => ⟨S8x2048x8x128, .f32⟩
  | 108 => ⟨S8x2048x8x128, .f32⟩
  | 109 => ⟨S8x2048x1024, .f32⟩
  | 110 => ⟨S1x8x128x128, .f32⟩
  | 111 => ⟨S8x128x128, .f32⟩
  | 112 => ⟨S8x128x8x2048, .f32⟩
  | 113 => ⟨S8x2048x8x128, .f32⟩
  | 114 => ⟨S1x8x128, .f32⟩
  | 115 => ⟨S8x128, .f32⟩
  | 116 => ⟨S1x1x8x128, .f32⟩
  | 117 => ⟨S8x2048x8x128, .f32⟩
  | 118 => ⟨S8x2048x8x128, .f32⟩
  | 119 => ⟨S8x2048x8x128, .f32⟩
  | 120 => ⟨S8x2048x8x128, .f32⟩
  | 121 => ⟨S_, .f32⟩
  | 122 => ⟨S8x2048x8x128, .f32⟩
  | 123 => ⟨S8x2048x8x128, .f32⟩
  | 124 => ⟨S_, .f32⟩
  | 125 => ⟨S8x2048x8x128, .f32⟩
  | 126 => ⟨S8x2048x8x128, .f32⟩
  | 127 => ⟨S8x2048x1024, .f32⟩
  | _ => ⟨S8x2048x1024, .f32⟩

abbrev hbmTy0_1 (i : Nat) : BufTy := match i % 128 with
  | 0 => ⟨S_, .f32⟩
  | 1 => ⟨S8x2048x1024, .f32⟩
  | 2 => ⟨S8x2048x1024, .f32⟩
  | 3 => ⟨S1x1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S1024, .f32⟩
  | 11 => ⟨S1024, .i1⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1x1x1024, .f32⟩
  | 21 => ⟨S8x2048x1024, .f32⟩
  | 22 => ⟨S8x2048x1024, .f32⟩
  | 23 => ⟨S8x2048x1024, .f32⟩
  | 24 => ⟨S_, .f32⟩
  | 25 => ⟨S8x2048x1024, .f32⟩
  | 26 => ⟨S8x2048x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S_, .f32⟩
  | 33 => ⟨S8x1024, .f32⟩
  | 34 => ⟨S_, .f32⟩
  | 35 => ⟨S8x2048x1024, .f32⟩
  | 36 => ⟨S_, .i32⟩
  | 37 => ⟨S_, .i32⟩
  | 38 => ⟨S8x2048x1024, .f32⟩
  | 39 => ⟨S8x2048x1024, .f32⟩
  | 40 => ⟨S8x2048x1024, .f32⟩
  | 41 => ⟨S_, .i32⟩
  | 42 => ⟨S_, .i32⟩
  | 43 => ⟨S8x1024, .f32⟩
  | 44 => ⟨S8x2048x1024, .f32⟩
  | 45 => ⟨S_, .i32⟩
  | 46 => ⟨S_, .i1⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S8x1x1024, .f32⟩
  | 58 => ⟨S8x1024, .f32⟩
  | 59 => ⟨S8x1024, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S8x1x1024, .f32⟩
  | 69 => ⟨S8x1024, .f32⟩
  | 70 => ⟨S8x1024, .f32⟩
  | 71 => ⟨S2048, .i32⟩
  | 72 => ⟨S2048x1, .i32⟩
  | 73 => ⟨S_, .i32⟩
  | 74 => ⟨S2048x1, .i32⟩
  | 75 => ⟨S2048x1, .i1⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S8x1x1024, .f32⟩
  | 85 => ⟨S8x1024, .f32⟩
  | 86 => ⟨S8x1024, .f32⟩
  | 87 => ⟨S8x1x1024, .f32⟩
  | 88 => ⟨S8x2048x1024, .i1⟩
  | 89 => ⟨S8x2048x1024, .f32⟩
  | 90 => ⟨S8x2048x1024, .f32⟩
  | 91 => ⟨S_, .i32⟩
  | 92 => ⟨S_, .i32⟩
  | 93 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c : Ref sig .tc := ⟨.hbm, 56, rfl⟩
abbrev main_call0_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_6 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_8 : Ref sig .tc := ⟨.hbm, 121, rfl⟩
abbrev main_v99 : Ref sig .tc := ⟨.hbm, 122, rfl⟩
abbrev main_v100 : Ref sig .tc := ⟨.hbm, 123, rfl⟩
abbrev main_cst_9 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_10 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_call1_cst : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_v8 : Ref sig .tc := ⟨.hbm, 143, rfl⟩
abbrev main_call1_v9 : Ref sig .tc := ⟨.hbm, 144, rfl⟩
abbrev main_call1_v10 : Ref sig .tc := ⟨.hbm, 145, rfl⟩
abbrev main_call1_v11 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_11 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_12 : Ref sig .tc := ⟨.hbm, 160, rfl⟩
abbrev main_v121 : Ref sig .tc := ⟨.hbm, 161, rfl⟩
abbrev main_cst_13 : Ref sig .tc := ⟨.hbm, 162, rfl⟩
abbrev main_v122 : Ref sig .tc := ⟨.hbm, 163, rfl⟩
abbrev main_c_14 : Ref sig .tc := ⟨.hbm, 164, rfl⟩
abbrev main_c_15 : Ref sig .tc := ⟨.hbm, 165, rfl⟩
abbrev main_v123_0 : Ref sig .tc := ⟨.hbm, 166, rfl⟩
abbrev main_v123_1 : Ref sig .tc := ⟨.hbm, 167, rfl⟩
abbrev main_v123_2 : Ref sig .tc := ⟨.hbm, 168, rfl⟩
abbrev main_v123_3 : Ref sig .tc := ⟨.hbm, 169, rfl⟩
abbrev main_v123_4 : Ref sig .tc := ⟨.hbm, 170, rfl⟩
abbrev main_v123_5 : Ref sig .tc := ⟨.hbm, 171, rfl⟩
abbrev main_v123_6 : Ref sig .tc := ⟨.hbm, 172, rfl⟩
abbrev main_while0c_c_22 : Ref sig .tc := ⟨.hbm, 173, rfl⟩
abbrev main_while0c_v125 : Ref sig .tc := ⟨.hbm, 174, rfl⟩
abbrev main_while0b_c_22 : Ref sig .tc := ⟨.hbm, 175, rfl⟩
abbrev main_while0b_v125 : Ref sig .tc := ⟨.hbm, 176, rfl⟩
abbrev main_while0b_call2_c : Ref sig .tc := ⟨.hbm, 177, rfl⟩
abbrev main_while0b_call2_v0 : Ref sig .tc := ⟨.hbm, 178, rfl⟩
abbrev main_while0b_call2_v1 : Ref sig .tc := ⟨.hbm, 179, rfl⟩
abbrev main_while0b_call2_c_0 : Ref sig .tc := ⟨.hbm, 180, rfl⟩
abbrev main_while0b_call2_v2 : Ref sig .tc := ⟨.hbm, 181, rfl⟩
abbrev main_while0b_call2_v3 : Ref sig .tc := ⟨.hbm, 182, rfl⟩
abbrev main_while0b_call2_c_1 : Ref sig .tc := ⟨.hbm, 183, rfl⟩
abbrev main_while0b_call2_c_2 : Ref sig .tc := ⟨.hbm, 184, rfl⟩
abbrev main_while0b_call2_v4 : Ref sig .tc := ⟨.hbm, 185, rfl⟩
abbrev main_while0b_v126 : Ref sig .tc := ⟨.hbm, 186, rfl⟩
abbrev main_while0b_v127 : Ref sig .tc := ⟨.hbm, 187, rfl⟩
abbrev main_while0b_call3_c : Ref sig .tc := ⟨.hbm, 188, rfl⟩
abbrev main_while0b_call3_v0 : Ref sig .tc := ⟨.hbm, 189, rfl⟩
abbrev main_while0b_call3_v1 : Ref sig .tc := ⟨.hbm, 190, rfl⟩
abbrev main_while0b_call3_c_0 : Ref sig .tc := ⟨.hbm, 191, rfl⟩
abbrev main_while0b_call3_v2 : Ref sig .tc := ⟨.hbm, 192, rfl⟩
abbrev main_while0b_call3_v3 : Ref sig .tc := ⟨.hbm, 193, rfl⟩
abbrev main_while0b_call3_c_1 : Ref sig .tc := ⟨.hbm, 194, rfl⟩
abbrev main_while0b_call3_c_2 : Ref sig .tc := ⟨.hbm, 195, rfl⟩
abbrev main_while0b_call3_v4 : Ref sig .tc := ⟨.hbm, 196, rfl⟩
abbrev main_while0b_v128 : Ref sig .tc := ⟨.hbm, 197, rfl⟩
abbrev main_while0b_v129 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_v133 : Ref sig .tc := ⟨.hbm, 202, rfl⟩
abbrev main_while0b_v134 : Ref sig .tc := ⟨.hbm, 203, rfl⟩
abbrev main_while0b_call4_c : Ref sig .tc := ⟨.hbm, 204, rfl⟩
abbrev main_while0b_call4_v0 : Ref sig .tc := ⟨.hbm, 205, rfl⟩
abbrev main_while0b_call4_v1 : Ref sig .tc := ⟨.hbm, 206, rfl⟩
abbrev main_while0b_call4_c_0 : Ref sig .tc := ⟨.hbm, 207, rfl⟩
abbrev main_while0b_call4_v2 : Ref sig .tc := ⟨.hbm, 208, rfl⟩
abbrev main_while0b_call4_v3 : Ref sig .tc := ⟨.hbm, 209, rfl⟩
abbrev main_while0b_call4_c_1 : Ref sig .tc := ⟨.hbm, 210, rfl⟩
abbrev main_while0b_call4_c_2 : Ref sig .tc := ⟨.hbm, 211, rfl⟩
abbrev main_while0b_call4_v4 : Ref sig .tc := ⟨.hbm, 212, rfl⟩
abbrev main_while0b_v135 : Ref sig .tc := ⟨.hbm, 213, rfl⟩
abbrev main_while0b_v136 : Ref sig .tc := ⟨.hbm, 214, rfl⟩
abbrev main_while0b_v137 : Ref sig .tc := ⟨.hbm, 215, rfl⟩
abbrev main_while0b_call5_v0 : Ref sig .tc := ⟨.hbm, 216, rfl⟩
abbrev main_while0b_call5_v1 : Ref sig .tc := ⟨.hbm, 217, rfl⟩
abbrev main_while0b_v138 : Ref sig .tc := ⟨.hbm, 218, rfl⟩
abbrev main_while0b_c_23 : Ref sig .tc := ⟨.hbm, 219, rfl⟩
abbrev main_while0b_v139 : Ref sig .tc := ⟨.hbm, 220, rfl⟩
abbrev main_v124 : Ref sig .tc := ⟨.hbm, 221, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S2x1024x1024 : Shape := ⟨3, ![2, 1024, 1024]⟩
abbrev S2x1024 : Shape := ⟨2, ![2, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024x1024, .f32⟩
  | .hbm, ⟨3, _⟩ => ⟨S2x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S2x1024x1024, .bf16⟩
  | .hbm, ⟨9, _⟩ => ⟨S4x1024x4096, .bf16⟩
  | .hbm, ⟨10, _⟩ => ⟨S4x4096x1024, .bf16⟩
  | .hbm, ⟨11, _⟩ => ⟨S16384x1024, .f32⟩
  | .hbm, ⟨12, _⟩ => ⟨S16384x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S2x1024x1024 : Shape := ⟨3, ![2, 1024, 1024]⟩
abbrev S2x1024 : Shape := ⟨2, ![2, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024x1024, .f32⟩
  | .hbm, ⟨3, _⟩ => ⟨S2x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S8x2048x1024, .f32⟩
  | .hbm, ⟨9, _⟩ => ⟨S1x1024x1024, .f32⟩
  | .hbm, ⟨10, _⟩ => ⟨S1024x1024, .f32⟩
  | .hbm, ⟨11, _⟩ => ⟨S8x2048x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1x1024x4096, .f32⟩
  | .hbm, ⟨37, _⟩ => ⟨S1024x4096, .f32⟩
  | .hbm, ⟨38, _⟩ => ⟨S1x4096x1024, .f32⟩
  | .hbm, ⟨39, _⟩ => ⟨S4096x1024, .f32⟩
  | .hbm, ⟨40, _⟩ => ⟨S8x2048x4096, .f32⟩
  | .hbm, ⟨41, _⟩ => ⟨S_, .f32⟩
  | .hbm, ⟨42, _⟩ => ⟨S8x2048x4096, .f32⟩
  | .hbm, ⟨43, _⟩ => ⟨S8x2048x4096, .f32⟩
  | .hbm, ⟨44, _⟩ => ⟨S8x2048x4096, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024x1024 : Shape := ⟨3, ![2, 1024, 1024]⟩
abbrev S2x1024 : Shape := ⟨2, ![2, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 22
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024x1024, .f32⟩
  | .hbm, ⟨3, _⟩ => ⟨S2x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S2x1024x1024, .bf16⟩
  | .hbm, ⟨8, _⟩ => ⟨S4x1024x4096, .bf16⟩
  | .hbm, ⟨9, _⟩ => ⟨S4x4096x1024, .bf16⟩
  | .hbm, ⟨10, _⟩ => ⟨S16384x1024, .f32⟩
  | .hbm, ⟨11, _⟩ => ⟨S16384x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S2x1024x1024 : Shape := ⟨3, ![2, 1024, 1024]⟩
abbrev S2x1024 : Shape := ⟨2, ![2, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024x1024, .f32⟩
  | .hbm, ⟨3, _⟩ => ⟨S2x1024, .f32⟩
  | .hbm, ⟨4, _⟩ => ⟨S4x1024, .f32⟩
  | .hbm, ⟨5, _⟩ => ⟨S4x1024x4096, .f32⟩
  | .hbm, ⟨6, _⟩ => ⟨S4x4096x1024, .f32⟩
  | .hbm, ⟨7, _⟩ => ⟨S8x2048x1024, .f32⟩
  | .hbm, ⟨8, _⟩ => ⟨S1x1024x1024, .f32⟩
  | .hbm, ⟨9, _⟩ => ⟨S1024x1024, .f32⟩
  | .hbm, ⟨10, _⟩ => ⟨S8x2048x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1x1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S1x1024x4096, .f32⟩
  | .hbm, ⟨36, _⟩ => ⟨S1024x4096, .f32⟩
  | .hbm, ⟨37, _⟩ => ⟨S1x4096x1024, .f32⟩
  | .hbm, ⟨38, _⟩ => ⟨S4096x1024, .f32⟩
  | .hbm, ⟨39, _⟩ => ⟨S8x2048x4096, .f32⟩
  | .hbm, ⟨40, _⟩ => ⟨S_, .f32⟩
  | .hbm, ⟨41, _⟩ => ⟨S8x2048x4096, .f32⟩
  | .hbm, ⟨42, _⟩ => ⟨S8x2048x4096, .f32⟩
  | .hbm, ⟨43, _⟩ => ⟨S8x2048x4096, .f32⟩
  | .hbm, ⟨44, _⟩ => ⟨S8x2048x1024, .f32⟩
  | .hbm, ⟨45, _⟩ => ⟨S8x2048x1024, .f32⟩
  | .hbm, ⟨46, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel4.lean ====
abbrev S8x2048x1024 : Shape := ⟨3, ![8, 2048, 1024]⟩
abbrev S4x1024 : Shape := ⟨2, ![4, 1024]⟩
abbrev S2x1024x3072 : Shape := ⟨3, ![2, 1024, 3072]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x3072 : Shape := ⟨3, ![1, 1024, 3072]⟩
abbrev S1024x3072 : Shape := ⟨2, ![1024, 3072]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S2x1024x3072, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16384x1024, .bf16⟩
  | .hbm, ⟨8, _⟩ => ⟨S16384x1024, .bf16⟩
  | .hbm, ⟨9, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x2048x1024 : Shape := ⟨3, ![8, 2048, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x3072, .f32⟩
  | .hbm, ⟨22, _⟩ => ⟨S1024x3072, .f32⟩
  | .hbm, ⟨23, _⟩ => ⟨S8x2048x3072, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S16384x1024, .f32⟩
  | .hbm, ⟨31, _⟩ => ⟨S16384x1024, .bf16⟩
  | .hbm, ⟨32, _⟩ => ⟨S16384x1024, .f32⟩
  | .hbm, ⟨33, _⟩ => ⟨S16384x1024, .bf16⟩
  | .hbm, ⟨34, _⟩ => ⟨S16384x1024, .f32⟩
  | .hbm, ⟨35, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proof.MlpSpec.lean ====
/- The mathematics of one output projection and squared-ReLU MLP, row by row, over the extended reals. -/
module

public import Idealize.ShloMosaic.Lib.Pointwise

@[expose] public section

noncomputable section

open Idealize.ShloMosaic

namespace Cert.MlpSpec

/-- The constant added under the root of a root-mean-square norm: the 32-bit float nearest to 1e-6. -/
def eps : EReal := Ideal.ofBits .f32 0x358637BD#32

/-- The length of a row, as the 32-bit float both programs divide by. -/
def rowLen : EReal := Ideal.ofBits .f32 0x44800000#32

/-- The root-mean-square norm of a row `x`, scaled by the weights `g`. -/
def rms (x g : Fin 1024 → EReal) (k : Fin 1024) : EReal :=
  x k * Ideal.rsqrt (Ideal.div (∑ j : Fin 1024, x j * x j) rowLen + eps) * g k

/-- The residual row after the output projection: `h + (m · w + b)`. -/
def proj (h m : Fin 1024 → EReal) (w : Fin 1024 → Fin 1024 → EReal) (b : Fin 1024 → EReal) (k : Fin 1024) : EReal :=
  h k + ((∑ j : Fin 1024, m j * w j k) + b k)

/-- A hidden unit of the MLP: the squared positive part of the row's product with a column of `w1`. -/
def hiddenUnit (x : Fin 1024 → EReal) (w1 : Fin 1024 → Fin 4096 → EReal) (f : Fin 4096) : EReal :=
  max (∑ j : Fin 1024, x j * w1 j f) 0 * max (∑ j : Fin 1024, x j * w1 j f) 0

/-- A row after the MLP's residual addition. -/
def mlp (x g : Fin 1024 → EReal) (w1 : Fin 1024 → Fin 4096 → EReal) (w2 : Fin 4096 → Fin 1024 → EReal) (k : Fin 1024) : EReal :=
  x k + ∑ f : Fin 4096, hiddenUnit (rms x g) w1 f * w2 f k

/-- A sum over 4096 indices is the sum of its four stretches of 1024. -/
theorem sum_four (g : Fin 4096 → EReal) :
    ∑ f : Fin 4096, g f = (∑ k : Fin 1024, g ⟨k, by omega⟩) + (∑ k : Fin 1024, g ⟨1024 + k, by omega⟩)
      + (∑ k : Fin 1024, g ⟨2048 + k, by omega⟩) + (∑ k : Fin 1024, g ⟨3072 + k, by omega⟩) := by
  rw [show (∑ f : Fin 4096, g f) = ∑ f : Fin (3072 + 1024), g f from rfl, Fin.sum_univ_add,
    show (∑ f : Fin 3072, g (Fin.castAdd 1024 f)) = ∑ f : Fin (2048 + 1024), g (Fin.castAdd 1024 f) from rfl, Fin.sum_univ_add,
    show (∑ f : Fin 2048, g (Fin.castAdd 1024 (Fin.castAdd 1024 f))) = ∑ f : Fin (1024 + 1024), g (Fin.castAdd 1024 (Fin.castAdd 1024 f)) from rfl, Fin.sum_univ_add]
  rfl

end Cert.MlpSpec

end
-- ==== Proof.MlpPay.lean ====
module

public import proofs.«01_k».proof.Proof.Gen.Kernel2Ideal.Value
public import proofs.«01_k».proof.Proof.MlpSpec
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.RefValue

open Cert.Kernel2Ideal Cert.Kernel2Ideal.Gen Cert.MlpSpec

theorem pay2_apply (v0 : Vec Ideal S512x1024 .f32) (v2 : Vec Ideal S512x1024 .bf16) (v4 : Vec Ideal S1x1024x1024 .bf16)
    (v8 : Vec Ideal S1x1024 .f32) (r : Fin 512) (k : Fin 1024) :
    k0_pay2 v0 v2 v4 v8 (ix2 r k)
      = proj (fun j => v0 (ix2 r j)) (fun j => v2 (ix2 r j)) (fun j k => v4 (ix3 0 j k)) (fun j => v8 (ix2 0 j)) k := by
  pointwise [k0_pay2]
  exact add_assoc (G := EReal) _ _ _

/-- The normed row that the four products with `w1` share. -/
theorem pay3_apply (v0 : Vec Ideal S512x1024 .f32) (v2 : Vec Ideal S512x1024 .bf16) (v4 : Vec Ideal S1x1024x1024 .bf16)
    (v8 : Vec Ideal S1x1024 .f32) (v12 : Vec Ideal S1x1024 .f32) (r : Fin 512) (k : Fin 1024) :
    k0_pay3 v0 v2 v4 v8 v12 (ix2 r k)
      = rms (fun j => k0_pay2 v0 v2 v4 v8 (ix2 r j)) (fun j => v12 (ix2 0 j)) k := by
  pointwise [k0_pay3]
  rfl

/-- A stretch of hidden units, as a product over the normed row. -/
def hid (x : Fin 1024 → EReal) (w : Vec Ideal S1x1024x1024 .bf16) (f : Fin 1024) : EReal :=
  max (∑ j : Fin 1024, x j * w (ix3 0 j f)) 0 * max (∑ j : Fin 1024, x j * w (ix3 0 j f)) 0

theorem pay4_apply (v0 : Vec Ideal S512x1024 .f32) (v2 : Vec Ideal S512x1024 .bf16) (v4 : Vec Ideal S1x1024x1024 .bf16)
    (v8 : Vec Ideal S1x1024 .f32) (v12 : Vec Ideal S1x1024 .f32) (v27 : Vec Ideal S1x1024x1024 .bf16) (r : Fin 512) (k : Fin 1024) :
    k0_pay4 v0 v2 v4 v8 v12 v27 (ix2 r k) = hid (fun j => k0_pay3 v0 v2 v4 v8 v12 (ix2 r j)) v27 k := by
  pointwise [k0_pay4, hid]

theorem pay7_apply (v26 : Vec Ideal S512x1024 .bf16) (v60 : Vec Ideal S1x1024x1024 .bf16) (r : Fin 512) (k : Fin 1024) :
    k0_pay7 v26 v60 (ix2 r k) = hid (fun j => v26 (ix2 r j)) v60 k := by
  pointwise [k0_pay7, hid]

/-- The running sum after three of the four stretches of hidden units. -/
theorem pay6_apply (v11 : FVec Ideal S512x1024 .f32) (v26 v33 : FVec Ideal S512x1024 .bf16) (v34 v38 v45 v49 v56 : Vec Ideal S1x1024x1024 .bf16)
    (r : Fin 512) (k : Fin 1024) :
    k0_pay6 v11 v26 v33 (k0_pay5 v34) v38 v45 v49 v56 (ix2 r k)
      = v11 (ix2 r k) + (∑ f : Fin 1024, v33 (ix2 r f) * v34 (ix3 0 f k))
        + (∑ f : Fin 1024, hid (fun j => v26 (ix2 r j)) v38 f * v45 (ix3 0 f k))
        + (∑ f : Fin 1024, hid (fun j => v26 (ix2 r j)) v49 f * v56 (ix3 0 f k)) := by
  pointwise [k0_pay6, k0_pay5, hid]

/-- The value stored: the last stretch added, and the row normed. -/
theorem pay1_apply (v59 : FVec Ideal S512x1024 .f32) (v66 : FVec Ideal S512x1024 .bf16) (v67 : Vec Ideal S1x1024x1024 .bf16)
    (v71 : Vec Ideal S1x1024 .f32) (r : Fin 512) (k : Fin 1024) :
    k0_pay1 v59 v66 (k0_pay8 v67) v71 (ix2 r k)
      = rms (fun k => v59 (ix2 r k) + ∑ f : Fin 1024, v66 (ix2 r f) * v67 (ix3 0 f k)) (fun j => v71 (ix2 0 j)) k := by
  pointwise [k0_pay1, k0_pay8]
  rfl

/-- The block indices of the nine windows: the rows of `h`, `mix` and the result move with the grid point, and the weights are
    the layer's slice of their stacks at every point. -/
theorem idx : ∀ t : Fin cfg0.N, win0_0.index t = ![(t : Nat), 0] ∧ win0_1.index t = ![(t : Nat), 0] ∧ win0_2.index t = ![1, 0, 0]
    ∧ win0_3.index t = ![0, 0] ∧ win0_4.index t = ![0, 0] ∧ win0_5.index t = ![3, 0, 0] ∧ win0_6.index t = ![3, 0, 0]
    ∧ win0_7.index t = ![0, 0] ∧ win0_8.index t = ![(t : Nat), 0] :=
  (by decide +kernel : ∀ t : Fin grid0.N, _)

variable (m : (ℓ : Loc nD τ sig) → Buf (Elt Ideal) ℓ) (ρ : Dev nD → PrngReg)

/-- The result, index by index, as the layer's mathematics of the argument arrays: row `i` is position `i % 2048` of the
    sequence `i / 2048`. -/
def out (h : Vec Ideal S8x2048x1024 .f32) (mix : Vec Ideal S8x2048x1024 .bf16) (wo : Vec Ideal S2x1024x1024 .f32)
    (bo : Vec Ideal S2x1024 .f32) (g : Vec Ideal S4x1024 .f32) (w1 : Vec Ideal S4x1024x4096 .f32) (w2 : Vec Ideal S4x4096x1024 .f32)
    (gf : Vec Ideal S1024 .f32) (b : Fin 8) (s : Fin 2048) (k : Fin 1024) : EReal :=
  rms (mlp (proj (fun j => h (ix3 b s j)) (fun j => mix (ix3 b s j)) (fun j k => wo (ix3 1 j k)) (fun k => bo (ix2 1 k)))
    (fun j => g (ix2 3 j)) (fun j f => w1 (ix3 3 j f)) (fun f k => w2 (ix3 3 f k))) (fun j => gf (ix1 j)) k

/-- The result array. -/
def outArr (c : Dev nD) : Vec Ideal S16384x1024 .f32 := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    ⟨(i 0 : Nat) / 2048, by have := (i 0).isLt; simp at this; omega⟩ ⟨(i 0 : Nat) % 2048, by omega⟩ (i 1)

/-- A row number as the sequence it lies in and the position there. -/
abbrev seqOf (t : Fin cfg0.N) (r : Fin 512) : Fin 8 := ⟨((t : Nat) * 512 + r) / 2048, by have : (t : Nat) < 32 := t.isLt; omega⟩
abbrev posOf (t : Fin cfg0.N) (r : Fin 512) : Fin 2048 := ⟨((t : Nat) * 512 + r) % 2048, by omega⟩

theorem blk0 (c : Dev nD) (t : Fin cfg0.N) (r : Fin 512) (k : Fin 1024) :
    iblk m c 0 t (ix2 r k) = m ((c : Thread nD τ).loc main_arg0) (ix3 (seqOf t r) (posOf t r) k) := by
  blk_ext! [iblk, idx t]

theorem blk1 (c : Dev nD) (t : Fin cfg0.N) (r : Fin 512) (k : Fin 1024) :
    iblk m c 1 t (ix2 r k) = m ((c : Thread nD τ).loc main_arg1) (ix3 (seqOf t r) (posOf t r) k) := by
  blk_ext! [iblk, idx t]

theorem blk2 (c : Dev nD) (t : Fin cfg0.N) (j k : Fin 1024) :
    iblk m c 2 t (ix3 0 j k) = m ((c : Thread nD τ).loc main_arg2) (ix3 1 j k) := by
  blk_ext! [iblk, idx t]

theorem blk3 (c : Dev nD) (t : Fin cfg0.N) (k : Fin 1024) :
    iblk m c 3 t (ix2 0 k) = m ((c : Thread nD τ).loc main_arg3) (ix2 1 k) := by
  blk_ext! [iblk, idx t]

theorem blk4 (c : Dev nD) (t : Fin cfg0.N) (k : Fin 1024) :
    iblk m c 4 t (ix2 0 k) = m ((c : Thread nD τ).loc main_arg4) (ix2 3 k) := by
  blk_ext! [iblk, idx t]

theorem blk7 (c : Dev nD) (t : Fin cfg0.N) (k : Fin 1024) :
    iblk m c 7 t (ix2 0 k) = m ((c : Thread nD τ).loc main_arg7) (ix1 k) := by
  blk_ext! [iblk, idx t]

theorem blk5 (c : Dev nD) (t : Fin cfg0.N) (j : Fin 1024) (f : Fin 4096) :
    iblk m c 5 t (ix3 0 j f) = m ((c : Thread nD τ).loc main_arg5) (ix3 3 j f) := by
  blk_ext! [iblk, idx t]

theorem blk6 (c : Dev nD) (t : Fin cfg0.N) (f : Fin 4096) (j : Fin 1024) :
    iblk m c 6 t (ix3 0 f j) = m ((c : Thread nD τ).loc main_arg6) (ix3 3 f j) := by
  blk_ext! [iblk, idx t]

/-- The four loads of `w1`: columns from 0, 1024, 2048 and 3072. -/
theorem ld5 (x : Vec Ideal S1x1024x4096 .bf16) (j f : Fin 1024) :
    View.ld x r0_3 (ix3 0 j f) = x (ix3 0 j ⟨f, by omega⟩) ∧ View.ld x r0_5 (ix3 0 j f) = x (ix3 0 j ⟨1024 + f, by omega⟩)
      ∧ View.ld x r0_7 (ix3 0 j f) = x (ix3 0 j ⟨2048 + f, by omega⟩) ∧ View.ld x r0_9 (ix3 0 j f) = x (ix3 0 j ⟨3072 + f, by omega⟩) := by
  refine ⟨?_, ?_, ?_, ?_⟩ <;> pointwise [r0_3, r0_5, r0_7, r0_9]

/-- The four loads of `w2`: rows from 0, 1024, 2048 and 3072. -/
theorem ld6 (x : Vec Ideal S1x4096x1024 .bf16) (f k : Fin 1024) :
    View.ld x r0_4 (ix3 0 f k) = x (ix3 0 ⟨f, by omega⟩ k) ∧ View.ld x r0_6 (ix3 0 f k) = x (ix3 0 ⟨1024 + f, by omega⟩ k)
      ∧ View.ld x r0_8 (ix3 0 f k) = x (ix3 0 ⟨2048 + f, by omega⟩ k) ∧ View.ld x r0_10 (ix3 0 f k) = x (ix3 0 ⟨3072 + f, by omega⟩ k) := by
  refine ⟨?_, ?_, ?_, ?_⟩ <;> pointwise [r0_4, r0_6, r0_8, r0_10]

/-- The same loads, of the blocks of the argument arrays. -/
theorem ldblk5 (c : Dev nD) (t : Fin cfg0.N) (j f : Fin 1024) :
    View.ld (S := S1x1024x4096) (iblk m c 5 t) r0_3 (ix3 0 j f) = m ((c : Thread nD τ).loc main_arg5) (ix3 3 j ⟨f, by omega⟩)
      ∧ View.ld (S := S1x1024x4096) (iblk m c 5 t) r0_5 (ix3 0 j f) = m ((c : Thread nD τ).loc main_arg5) (ix3 3 j ⟨1024 + f, by omega⟩)
      ∧ View.ld (S := S1x1024x4096) (iblk m c 5 t) r0_7 (ix3 0 j f) = m ((c : Thread nD τ).loc main_arg5) (ix3 3 j ⟨2048 + f, by omega⟩)
      ∧ View.ld (S := S1x1024x4096) (iblk m c 5 t) r0_9 (ix3 0 j f) = m ((c : Thread nD τ).loc main_arg5) (ix3 3 j ⟨3072 + f, by omega⟩) :=
  have h := ld5 (iblk m c 5 t) j f
  ⟨h.1.trans (blk5 ..), h.2.1.trans (blk5 ..), h.2.2.1.trans (blk5 ..), h.2.2.2.trans (blk5 ..)⟩

theorem ldblk6 (c : Dev nD) (t : Fin cfg0.N) (f k : Fin 1024) :
    View.ld (S := S1x4096x1024) (iblk m c 6 t) r0_4 (ix3 0 f k) = m ((c : Thread nD τ).loc main_arg6) (ix3 3 ⟨f, by omega⟩ k)
      ∧ View.ld (S := S1x4096x1024) (iblk m c 6 t) r0_6 (ix3 0 f k) = m ((c : Thread nD τ).loc main_arg6) (ix3 3 ⟨1024 + f, by omega⟩ k)
      ∧ View.ld (S := S1x4096x1024) (iblk m c 6 t) r0_8 (ix3 0 f k) = m ((c : Thread nD τ).loc main_arg6) (ix3 3 ⟨2048 + f, by omega⟩ k)
      ∧ View.ld (S := S1x4096x1024) (iblk m c 6 t) r0_10 (ix3 0 f k) = m ((c : Thread nD τ).loc main_arg6) (ix3 3 ⟨3072 + f, by omega⟩ k) :=
  have h := ld6 (iblk m c 6 t) f k
  ⟨h.1.trans (blk6 ..), h.2.1.trans (blk6 ..), h.2.2.1.trans (blk6 ..), h.2.2.2.trans (blk6 ..)⟩

/-- The result array after the run is the layer's mathematics of the argument arrays. -/
theorem final (c : Dev nD) : (dats m 0 c).arrAt 8 cfg0.N = outArr m c := by
  refine (dats m 0 c).arrAt_eq_of_covers 8 _ (by decide +kernel) fun t hf y => ?_
  blk_simp
  rw [after0_8]
  unfold_out out0_8
  frame_out
  idx_vars y
  have ht : ((View.whole main_v12).slice (win0_8.rect t)).emb (ix2 y0 y1)
      = ix2 (⟨(t : Nat) * 512 + y0, by have : (t : Nat) < 32 := t.isLt; omega⟩ : Fin 16384) y1 := by
    blk_ext [idx t]
  rw [ht, pay1_apply]
  unfold outArr out
  refine congrArg₂ (fun x g => rms x g y1) (funext fun k => ?_) (funext fun k => blk7 m c t k)
  rw [pay6_apply]
  simp only [pay7_apply, pay4_apply, pay3_apply, pay2_apply, blk0, blk1, blk2, blk3, blk4]
  simp only [hid, (ldblk5 m c t _ _).1, (ldblk5 m c t _ _).2.1, (ldblk5 m c t _ _).2.2.1, (ldblk5 m c t _ _).2.2.2,
    (ldblk6 m c t _ _).1, (ldblk6 m c t _ _).2.1, (ldblk6 m c t _ _).2.2.1, (ldblk6 m c t _ _).2.2.2]
  simp only [mlp, hiddenUnit, sum_four, ← add_assoc (G := EReal)]
  rfl

end Cert.Kernel2Ideal.RefValue

end
-- ==== Proof.MlpClaims.lean ====
/- The claims about the output projection and MLP of the last layer: the reference read at an index, and the two programs joined. -/
module

public import proofs.«01_k».proof.Defs
public import proofs.«01_k».proof.Proof.MlpPay
public import proofs.«01_k».proof.Proof.Gen.Kernel2.Frame
public import proofs.«01_k».proof.Proof.Gen.Reference2Ideal.Read
public import Idealize.ShloMosaic.Lib.Quiescent

@[expose] public section

set_option maxRecDepth 16384

noncomputable section

open Idealize.ShloMosaic Idealize.ShloMosaic.TcCoe Idealize.SL.Sem

namespace Cert.Reference2Ideal.RefValue

open Cert.Reference2Ideal Cert.Reference2Ideal.Read Cert.MlpSpec

section

variable (h : Vec Ideal S8x2048x1024 .f32) (mix : Vec Ideal S8x2048x1024 .bf16) (wo : Vec Ideal S2x1024x1024 .f32)
    (bo : Vec Ideal S2x1024 .f32) (g : Vec Ideal S4x1024 .f32) (w1 : Vec Ideal S4x1024x4096 .f32) (w2 : Vec Ideal S4x4096x1024 .f32)
    (gf : Vec Ideal S1024 .f32) (b : Fin 8) (s : Fin 2048) (k : Fin 1024)

/-- The reference's residual after the output projection. -/
theorem proj_apply : val_main_v9 h mix wo bo (ix3 b s k)
    = proj (fun j => h (ix3 b s j)) (fun j => mix (ix3 b s j)) (fun j k => wo (ix3 1 j k)) (fun k => bo (ix2 1 k)) k := by
  pointwise [val_main_v9, val_main_v8, val_main_v7, val_main_v6, val_main_v5, val_main_v4, val_main_v3, val_main_v2, val_main_v1, val_main_v0]
  rfl

/-- The normed row that enters the MLP. -/
theorem norm_apply : val_main_v24 h mix wo bo g (ix3 b s k)
    = rms (fun j => val_main_v9 h mix wo bo (ix3 b s j)) (fun j => g (ix2 3 j)) k := by
  pointwise [val_main_v24, val_main_v23, val_main_v22, val_main_v21, val_main_v20, val_main_v19, val_main_v18, val_main_v17, val_main_cst_1,
    val_main_v16, val_main_v15, val_main_cst_0, val_main_v14, val_main_v13, val_main_cst, val_main_v12, val_main_v11, val_main_v10]
  rfl

/-- A hidden unit. -/
theorem hidden_apply (f : Fin 4096) : val_main_v31 h mix wo bo g w1 (ix3 b s f)
    = hiddenUnit (fun j => val_main_v24 h mix wo bo g (ix3 b s j)) (fun j f => w1 (ix3 3 j f)) f := by
  pointwise [val_main_v31, val_main_v30, val_main_call0_v0, val_main_call0_cst, val_main_v29, val_main_v26, val_main_v25]
  rfl

/-- The residual after the MLP. -/
theorem mlp_apply : val_main_v33 h mix wo bo g w1 w2 (ix3 b s k)
    = val_main_v9 h mix wo bo (ix3 b s k) + ∑ f : Fin 4096, val_main_v31 h mix wo bo g w1 (ix3 b s f) * w2 (ix3 3 f k) := by
  pointwise [val_main_v33, val_main_v32, val_main_v28, val_main_v27]

/-- The final norm. -/
theorem last_apply (i : Fin 16384) : val_main_v47 h mix wo bo g w1 w2 gf (ix2 i k)
    = rms (fun j => val_main_v33 h mix wo bo g w1 w2 (ix3 (⟨(i : Nat) / 2048, by omega⟩ : Fin 8) (⟨(i : Nat) % 2048, by omega⟩ : Fin 2048) j))
        (fun j => gf (ix1 j)) k := by
  pointwise [val_main_v47, val_main_v46, val_main_v45, val_main_v44, val_main_v43, val_main_v42, val_main_v41, val_main_v40, val_main_v39,
    val_main_cst_4, val_main_v38, val_main_v37, val_main_cst_3, val_main_v36, val_main_v35, val_main_cst_2, val_main_v34]
  rfl

/-- The reference's result at row `i` and column `k` is the layer's mathematics of its argument arrays. -/
theorem res_apply (i : Fin 16384) : val_main_v47 h mix wo bo g w1 w2 gf (ix2 i k)
    = Cert.Kernel2Ideal.RefValue.out h mix wo bo g w1 w2 gf ⟨(i : Nat) / 2048, by omega⟩ ⟨(i : Nat) % 2048, by omega⟩ k := by
  rw [last_apply]
  simp only [mlp_apply, hidden_apply, norm_apply, proj_apply]
  rfl

end

end Cert.Reference2Ideal.RefValue

namespace Cert.Proof.Mlp

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  pair_intro
  · run_from Cert.Kernel2Ideal.Value.run_blocks m g
  · run_from Cert.Reference2Ideal.Value.run m' g'
    rw [Cert.Kernel2Ideal.RefValue.final m c]
    funext i
    idx_vars i
    rw [Cert.Reference2Ideal.Read.val_main_v47_eq, Cert.Reference2Ideal.RefValue.res_apply]
    obtain ⟨h0, h1, h2, h3, h4, h5, h6, h7⟩ := hagree c
    rw [h0, h1, h2, h3, h4, h5, h6, h7]
    rfl

end Cert.Proof.Mlp

end
-- ==== Proof.MlpInner.lean ====
/- The output projection and MLP of a layer other than the last, where no final norm follows: its blocks, its result array, the
   reference read at an index, and the claims. The kernel's payloads are those of the last layer's call (Proof/MlpPay.lean), up to
   the value it stores. -/
module

public import proofs.«01_k».proof.Defs
public import proofs.«01_k».proof.Proof.MlpPay
public import proofs.«01_k».proof.Proof.Gen.Kernel3.Frame
public import proofs.«01_k».proof.Proof.Gen.Kernel3Ideal.Value
public import proofs.«01_k».proof.Proof.Gen.Reference3Ideal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen Cert.MlpSpec
open Cert.Kernel2Ideal.RefValue (hid)

/-- The payloads up to the stored value are those of the last layer's call. -/
theorem pay_eq : k0_pay2 (F := Ideal) = Cert.Kernel2Ideal.Gen.k0_pay2 (F := Ideal) ∧ k0_pay3 (F := Ideal) = Cert.Kernel2Ideal.Gen.k0_pay3 (F := Ideal)
    ∧ k0_pay4 (F := Ideal) = Cert.Kernel2Ideal.Gen.k0_pay4 (F := Ideal) ∧ k0_pay5 (F := Ideal) = Cert.Kernel2Ideal.Gen.k0_pay5 (F := Ideal)
    ∧ k0_pay6 (F := Ideal) = Cert.Kernel2Ideal.Gen.k0_pay6 (F := Ideal) ∧ k0_pay7 (F := Ideal) = Cert.Kernel2Ideal.Gen.k0_pay7 (F := Ideal) :=
  ⟨rfl, rfl, rfl, rfl, rfl, rfl⟩

/-- The value stored: the last stretch of hidden units added. -/
theorem pay1_apply (v59 : FVec Ideal S512x1024 .f32) (v66 : FVec Ideal S512x1024 .bf16) (v67 : Vec Ideal S1x1024x1024 .bf16)
    (r : Fin 512) (k : Fin 1024) :
    k0_pay1 v59 v66 (k0_pay8 v67) (ix2 r k) = v59 (ix2 r k) + ∑ f : Fin 1024, v66 (ix2 r f) * v67 (ix3 0 f k) := by
  pointwise [k0_pay1, k0_pay8]

/-- The block indices of the windows: as in the last layer's call, at this layer's slices of the weights. -/
theorem idx : ∀ t : Fin cfg0.N, win0_0.index t = ![(t : Nat), 0] ∧ win0_1.index t = ![(t : Nat), 0] ∧ win0_2.index t = ![0, 0, 0]
    ∧ win0_3.index t = ![0, 0] ∧ win0_4.index t = ![0, 0] ∧ win0_5.index t = ![1, 0, 0] ∧ win0_6.index t = ![1, 0, 0]
    ∧ win0_8.index t = ![(t : Nat), 0] :=
  (by decide +kernel : ∀ t : Fin grid0.N, _)

variable (m : (ℓ : Loc nD τ sig) → Buf (Elt Ideal) ℓ) (ρ : Dev nD → PrngReg)

/-- The result at sequence `b`, position `s` and column `k`, as the layer's mathematics of the argument arrays. -/
def out (h : Vec Ideal S8x2048x1024 .f32) (mix : Vec Ideal S8x2048x1024 .bf16) (wo : Vec Ideal S2x1024x1024 .f32)
    (bo : Vec Ideal S2x1024 .f32) (g : Vec Ideal S4x1024 .f32) (w1 : Vec Ideal S4x1024x4096 .f32) (w2 : Vec Ideal S4x4096x1024 .f32)
    (b : Fin 8) (s : Fin 2048) (k : Fin 1024) : EReal :=
  mlp (proj (fun j => h (ix3 b s j)) (fun j => mix (ix3 b s j)) (fun j k => wo (ix3 0 j k)) (fun k => bo (ix2 0 k)))
    (fun j => g (ix2 1 j)) (fun j f => w1 (ix3 1 j f)) (fun f k => w2 (ix3 1 f k)) k

/-- The result array. -/
def outArr (c : Dev nD) : Vec Ideal S16384x1024 .f32 := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    ⟨(i 0 : Nat) / 2048, by have := (i 0).isLt; simp at this; omega⟩ ⟨(i 0 : Nat) % 2048, by omega⟩ (i 1)

open Cert.Kernel2Ideal.RefValue (seqOf posOf)

/-- The blocks of the activations at a row. -/
theorem blk_rows (c : Dev nD) (t : Fin cfg0.N) (r : Fin 512) (k : Fin 1024) :
    iblk m c 0 t (ix2 r k) = m ((c : Thread nD τ).loc main_arg0) (ix3 (seqOf t r) (posOf t r) k)
      ∧ iblk m c 1 t (ix2 r k) = m ((c : Thread nD τ).loc main_arg1) (ix3 (seqOf t r) (posOf t r) k) := by
  refine ⟨?_, ?_⟩ <;> blk_ext! [iblk, idx t]

/-- The blocks of the projection's weights and bias, and of the norm's weights. -/
theorem blk_proj (c : Dev nD) (t : Fin cfg0.N) (j k : Fin 1024) :
    iblk m c 2 t (ix3 0 j k) = m ((c : Thread nD τ).loc main_arg2) (ix3 0 j k)
      ∧ iblk m c 3 t (ix2 0 k) = m ((c : Thread nD τ).loc main_arg3) (ix2 0 k)
      ∧ iblk m c 4 t (ix2 0 k) = m ((c : Thread nD τ).loc main_arg4) (ix2 1 k) := by
  refine ⟨?_, ?_, ?_⟩ <;> blk_ext! [iblk, idx t]

/-- The blocks of the MLP's weights. -/
theorem blk_mlp (c : Dev nD) (t : Fin cfg0.N) (j : Fin 1024) (f : Fin 4096) :
    iblk m c 5 t (ix3 0 j f) = m ((c : Thread nD τ).loc main_arg5) (ix3 1 j f)
      ∧ iblk m c 6 t (ix3 0 f j) = m ((c : Thread nD τ).loc main_arg6) (ix3 1 f j) := by
  refine ⟨?_, ?_⟩ <;> blk_ext! [iblk, idx t]

/-- The four stretches of columns of `w1`, loaded from its block. -/
theorem ldblk5 (c : Dev nD) (t : Fin cfg0.N) (j f : Fin 1024) :
    View.ld (S := S1x1024x4096) (iblk m c 5 t) r0_3 (ix3 0 j f) = m ((c : Thread nD τ).loc main_arg5) (ix3 1 j ⟨f, by omega⟩)
      ∧ View.ld (S := S1x1024x4096) (iblk m c 5 t) r0_5 (ix3 0 j f) = m ((c : Thread nD τ).loc main_arg5) (ix3 1 j ⟨1024 + f, by omega⟩)
      ∧ View.ld (S := S1x1024x4096) (iblk m c 5 t) r0_7 (ix3 0 j f) = m ((c : Thread nD τ).loc main_arg5) (ix3 1 j ⟨2048 + f, by omega⟩)
      ∧ View.ld (S := S1x1024x4096) (iblk m c 5 t) r0_9 (ix3 0 j f) = m ((c : Thread nD τ).loc main_arg5) (ix3 1 j ⟨3072 + f, by omega⟩) :=
  have h := Cert.Kernel2Ideal.RefValue.ld5 (iblk m c 5 t) j f
  ⟨h.1.trans (blk_mlp ..).1, h.2.1.trans (blk_mlp ..).1, h.2.2.1.trans (blk_mlp ..).1, h.2.2.2.trans (blk_mlp ..).1⟩

/-- The four stretches of rows of `w2`, loaded from its block. -/
theorem ldblk6 (c : Dev nD) (t : Fin cfg0.N) (f k : Fin 1024) :
    View.ld (S := S1x4096x1024) (iblk m c 6 t) r0_4 (ix3 0 f k) = m ((c : Thread nD τ).loc main_arg6) (ix3 1 ⟨f, by omega⟩ k)
      ∧ View.ld (S := S1x4096x1024) (iblk m c 6 t) r0_6 (ix3 0 f k) = m ((c : Thread nD τ).loc main_arg6) (ix3 1 ⟨1024 + f, by omega⟩ k)
      ∧ View.ld (S := S1x4096x1024) (iblk m c 6 t) r0_8 (ix3 0 f k) = m ((c : Thread nD τ).loc main_arg6) (ix3 1 ⟨2048 + f, by omega⟩ k)
      ∧ View.ld (S := S1x4096x1024) (iblk m c 6 t) r0_10 (ix3 0 f k) = m ((c : Thread nD τ).loc main_arg6) (ix3 1 ⟨3072 + f, by omega⟩ k) :=
  have h := Cert.Kernel2Ideal.RefValue.ld6 (iblk m c 6 t) f k
  ⟨h.1.trans (blk_mlp ..).2, h.2.1.trans (blk_mlp ..).2, h.2.2.1.trans (blk_mlp ..).2, h.2.2.2.trans (blk_mlp ..).2⟩

/-- The result array after the run is the layer's mathematics of the argument arrays. -/
theorem final (c : Dev nD) : (dats m 0 c).arrAt 8 cfg0.N = outArr m c := by
  refine (dats m 0 c).arrAt_eq_of_covers 8 _ (by decide +kernel) fun t hf y => ?_
  blk_simp
  rw [after0_8]
  unfold_out out0_8
  frame_out
  idx_vars y
  have ht : ((View.whole main_v14).slice (win0_8.rect t)).emb (ix2 y0 y1)
      = ix2 (⟨(t : Nat) * 512 + y0, by have : (t : Nat) < 32 := t.isLt; omega⟩ : Fin 16384) y1 := by
    blk_ext [idx t]
  rw [ht, pay1_apply]
  obtain ⟨e2, e3, e4, e5, e6, e7⟩ := pay_eq
  rw [e2, e3, e4, e5, e6, e7, Cert.Kernel2Ideal.RefValue.pay6_apply]
  simp only [Cert.Kernel2Ideal.RefValue.pay7_apply, Cert.Kernel2Ideal.RefValue.pay4_apply, Cert.Kernel2Ideal.RefValue.pay3_apply,
    Cert.Kernel2Ideal.RefValue.pay2_apply, (blk_rows m c t _ _).1, (blk_rows m c t _ _).2, (blk_proj m c t _ _).1,
    (blk_proj m c t 0 _).2.1, (blk_proj m c t 0 _).2.2]
  simp only [hid, (ldblk5 m c t _ _).1, (ldblk5 m c t _ _).2.1, (ldblk5 m c t _ _).2.2.1, (ldblk5 m c t _ _).2.2.2,
    (ldblk6 m c t _ _).1, (ldblk6 m c t _ _).2.1, (ldblk6 m c t _ _).2.2.1, (ldblk6 m c t _ _).2.2.2]
  unfold outArr out
  simp only [mlp, hiddenUnit, sum_four, ← add_assoc (G := EReal)]
  rfl

end Cert.Kernel3Ideal.RefValue

namespace Cert.Reference3Ideal.RefValue

open Cert.Reference3Ideal Cert.Reference3Ideal.Read Cert.MlpSpec

section

variable (h : Vec Ideal S8x2048x1024 .f32) (mix : Vec Ideal S8x2048x1024 .bf16) (wo : Vec Ideal S2x1024x1024 .f32)
    (bo : Vec Ideal S2x1024 .f32) (g : Vec Ideal S4x1024 .f32) (w1 : Vec Ideal S4x1024x4096 .f32) (w2 : Vec Ideal S4x4096x1024 .f32)
    (b : Fin 8) (s : Fin 2048) (k : Fin 1024)

/-- The reference's residual after the output projection. -/
theorem proj_apply : val_main_v9 h mix wo bo (ix3 b s k)
    = proj (fun j => h (ix3 b s j)) (fun j => mix (ix3 b s j)) (fun j k => wo (ix3 0 j k)) (fun k => bo (ix2 0 k)) k := by
  pointwise [val_main_v9, val_main_v8, val_main_v7, val_main_v6, val_main_v5, val_main_v4, val_main_v3, val_main_v2, val_main_v1, val_main_v0]
  rfl

/-- The normed row that enters the MLP. -/
theorem norm_apply : val_main_v24 h mix wo bo g (ix3 b s k)
    = rms (fun j => val_main_v9 h mix wo bo (ix3 b s j)) (fun j => g (ix2 1 j)) k := by
  pointwise [val_main_v24, val_main_v23, val_main_v22, val_main_v21, val_main_v20, val_main_v19, val_main_v18, val_main_v17, val_main_cst_1,
    val_main_v16, val_main_v15, val_main_cst_0, val_main_v14, val_main_v13, val_main_cst, val_main_v12, val_main_v11, val_main_v10]
  rfl

/-- A hidden unit. -/
theorem hidden_apply (f : Fin 4096) : val_main_v31 h mix wo bo g w1 (ix3 b s f)
    = hiddenUnit (fun j => val_main_v24 h mix wo bo g (ix3 b s j)) (fun j f => w1 (ix3 1 j f)) f := by
  pointwise [val_main_v31, val_main_v30, val_main_call0_v0, val_main_call0_cst, val_main_v29, val_main_v26, val_main_v25]
  rfl

/-- The residual after the MLP. -/
theorem mlp_apply : val_main_v33 h mix wo bo g w1 w2 (ix3 b s k)
    = val_main_v9 h mix wo bo (ix3 b s k) + ∑ f : Fin 4096, val_main_v31 h mix wo bo g w1 (ix3 b s f) * w2 (ix3 1 f k) := by
  pointwise [val_main_v33, val_main_v32, val_main_v28, val_main_v27]

/-- The reference's result at row `i` and column `k` is the layer's mathematics of its argument arrays. -/
theorem res_apply (i : Fin 16384) : val_main_v34 h mix wo bo g w1 w2 (ix2 i k)
    = Cert.Kernel3Ideal.RefValue.out h mix wo bo g w1 w2 ⟨(i : Nat) / 2048, by omega⟩ ⟨(i : Nat) % 2048, by omega⟩ k := by
  have e : val_main_v34 h mix wo bo g w1 w2 (ix2 i k)
      = val_main_v33 h mix wo bo g w1 w2 (ix3 (⟨(i : Nat) / 2048, by omega⟩ : Fin 8) (⟨(i : Nat) % 2048, by omega⟩ : Fin 2048) k) := by
    pointwise [val_main_v34]
  rw [e]
  simp only [mlp_apply, hidden_apply, norm_apply, proj_apply]
  rfl

end

end Cert.Reference3Ideal.RefValue

namespace Cert.Proof.MlpInner

/-- The kernel runs to its end, with its arguments unchanged and no semaphore left set. -/
theorem frame_kernel : Cert.quiescent_Kernel3 := fun m ρ _ => Cert.Kernel3.Gen.frame m ρ
/-- So does its idealization. -/
theorem frame_ideal : Cert.quiescent_Kernel3Ideal := fun m ρ _ => Cert.Kernel3Ideal.Gen.frame m ρ
/-- And the reference. -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From the same arguments the kernel and the reference end with the same extended reals. -/
theorem algebraic : Cert.algebraic_Kernel3Ideal_Reference3Ideal := by
  pair_intro
  · run_from Cert.Kernel3Ideal.Value.run_blocks m g
  · run_from Cert.Reference3Ideal.Value.run m' g'
    rw [Cert.Kernel3Ideal.RefValue.final m c]
    funext i
    idx_vars i
    rw [Cert.Reference3Ideal.Read.val_main_v34_eq, Cert.Reference3Ideal.RefValue.res_apply]
    obtain ⟨h0, h1, h2, h3, h4, h5, h6⟩ := hagree c
    rw [h0, h1, h2, h3, h4, h5, h6]
    rfl

end Cert.Proof.MlpInner

end
-- ==== Proof.Qkv.lean ====
/- The norm and the projections to queries, keys and values of an attention layer: what a grid step stores, the result arrays, the
   reference read at an index, and the claims. The kernel casts the weights once, at its first grid step, into a buffer that
   every later step reads. -/
module

public import proofs.«01_k».proof.Defs
public import proofs.«01_k».proof.Proof.MlpSpec
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.MlpSpec

/-- The factor on the queries: the score scale times the binary logarithm of e, as the 32-bit float both programs multiply by. -/
def scale : EReal := Ideal.ofBits .f32 0x3E38AA3B#32

/-- Column `f` of the product of a normed row with the weights. -/
def dotRow (x g : Fin 1024 → EReal) (w : Fin 1024 → Fin 3072 → EReal) (f : Fin 3072) : EReal := ∑ j : Fin 1024, rms x g j * w j f

section

variable (v3 : Vec Ideal S512x1024 .f32) (v5 : Vec Ideal S1x1024 .f32) (w : Vec Ideal S1024x1024 .bf16) (r : Fin 512) (k : Fin 1024)

/-- The normed rows of a block, -/
theorem pay4_apply : k0_pay4 v3 v5 (ix2 r k) = rms (fun j => v3 (ix2 r j)) (fun j => v5 (ix2 0 j)) k := by
  pointwise [k0_pay4]
  rfl

/-- its queries, -/
theorem pay5_apply : k0_pay5 v3 v5 w (ix2 r k) = (∑ j : Fin 1024, rms (fun j => v3 (ix2 r j)) (fun j => v5 (ix2 0 j)) j * w (ix2 j k)) * scale := by
  pointwise [k0_pay5, pay4_apply]
  rfl

/-- keys -/
theorem pay6_apply : k0_pay6 v3 v5 w (ix2 r k) = ∑ j : Fin 1024, rms (fun j => v3 (ix2 r j)) (fun j => v5 (ix2 0 j)) j * w (ix2 j k) := by
  pointwise [k0_pay6, pay4_apply]

/-- and values. -/
theorem pay7_apply : k0_pay7 v3 v5 w (ix2 r k) = ∑ j : Fin 1024, rms (fun j => v3 (ix2 r j)) (fun j => v5 (ix2 0 j)) j * w (ix2 j k) := by
  pointwise [k0_pay7, pay4_apply]

end

/-- The block indices of the windows: the rows of the activations and of the results move with the grid point. -/
theorem idx : ∀ t : Fin cfg0.N, win0_0.index t = ![(t : Nat), 0] ∧ win0_1.index t = ![0, 0] ∧ win0_2.index t = ![0, 0, 0]
    ∧ win0_3.index t = ![(t : Nat), 0] ∧ win0_4.index t = ![(t : Nat), 0] ∧ win0_5.index t = ![(t : Nat), 0] :=
  (by decide +kernel : ∀ t : Fin grid0.N, _)

variable (m : (ℓ : Loc nD τ sig) → Buf (Elt Ideal) ℓ) (ρ : Dev nD → PrngReg)

/-- A row number as the sequence it lies in and the position there. -/
abbrev seqOf (t : Fin cfg0.N) (r : Fin 512) : Fin 8 := ⟨((t : Nat) * 512 + r) / 2048, by have : (t : Nat) < 32 := t.isLt; omega⟩
abbrev posOf (t : Fin cfg0.N) (r : Fin 512) : Fin 2048 := ⟨((t : Nat) * 512 + r) % 2048, by omega⟩

/-- The blocks a grid step reads. -/
theorem blk (c : Dev nD) (t : Fin cfg0.N) (r : Fin 512) (k : Fin 1024) :
    iblk m c 0 t (ix2 r k) = m ((c : Thread nD τ).loc main_arg0) (ix3 (seqOf t r) (posOf t r) k)
      ∧ iblk m c 1 t (ix2 0 k) = m ((c : Thread nD τ).loc main_arg1) (ix2 0 k) := by
  refine ⟨?_, ?_⟩ <;> blk_ext! [iblk, idx t]

theorem blk_weights (c : Dev nD) (t : Fin cfg0.N) (j : Fin 1024) (f : Fin 3072) :
    iblk m c 2 t (ix3 0 j f) = m ((c : Thread nD τ).loc main_arg2) (ix3 0 j f) := by
  blk_ext! [iblk, idx t]

/-- The weights of a block without its leading axis: what the first grid step leaves in the buffer. -/
def flat (x : Vec Ideal S1x1024x3072 .f32) : Vec Ideal S1024x3072 .bf16 := fun y => x (ix3 0 (y 0) (y 1))

/-- The first step's three stores, of the columns of queries, keys and values, the last first. -/
def stores (x : Vec Ideal S1x1024x3072 .f32) : List (View.Piece (Elt Ideal) S1024x3072 .bf16) :=
  [⟨Rect.unit ![0, 2048] ![1024, 1024] inb_S1024x3072_S1024x1024_0_2048,
      k0_pay3 (View.ld x (Rect.unit ![0, 0, 2048] ![1, 1024, 1024] inb_S1x1024x3072_S1x1024x1024_0_0_2048))⟩,
    ⟨Rect.unit ![0, 1024] ![1024, 1024] inb_S1024x3072_S1024x1024_0_1024,
      k0_pay2 (View.ld x (Rect.unit ![0, 0, 1024] ![1, 1024, 1024] inb_S1x1024x3072_S1x1024x1024_0_0_1024))⟩,
    ⟨Rect.unit ![0, 0] ![1024, 1024] inb_S1024x3072_S1024x1024_0_0,
      k0_pay1 (View.ld x (Rect.unit ![0, 0, 0] ![1, 1024, 1024] inb_S1x1024x3072_S1x1024x1024_0_0_0))⟩]

/-- Together they leave the flattened weights, -/
theorem stores_canon (x : Vec Ideal S1x1024x3072 .f32) : View.canon (stores x) = flat x := by
  unfold stores
  funext y
  canon_tiles z hz
  all_goals
    idx_vars z
    pointwise [k0_pay1, k0_pay2, k0_pay3, flat]
    exact congrArg x (by congr 1 <;> exact Fin.ext (by first | simpa using hz0.symm | simpa using hz1.symm))

/-- and a load of the buffer after them reads those. -/
theorem stores_load (x : Vec Ideal S1x1024x3072 .f32) (v : View sig .tc .vmem S1024x3072 .bf16) (r : Rect S1024x3072) :
    v.readCov (stores x) r.toLoadRect = View.ld (flat x) r := by
  rw [View.readCov_eq_canon_ld v (stores x) r fun y => View.cover_of_tiledL (stores x) S1024x1024.size (by sl_kernel_rfl) y, stores_canon]

/-- The layer's weights, as the buffer holds them after every step. -/
theorem kept (c : Dev nD) : ∀ (n : ℕ) (hn : n < cfg0.N), (outsAt0 m c n hn).2.2.2 = flat (iblk m c 2 ⟨0, by decide⟩) := by
  intro n
  induction n with
  | zero =>
    intro hn
    rw [outsAt0_A m c ⟨0, hn⟩ rfl]
    frame_out
    exact stores_canon _
  | succ n ih =>
    intro hn
    have hN : n + 1 < 32 := hn
    rw [outsAt0_B m c ⟨n + 1, hn⟩ (by show ¬ (n + 1) % 32 = 0; omega)]
    exact ih (Nat.lt_of_succ_lt hn)

/-- The columns of the queries, keys and values in the buffer. -/
abbrev colsQ : Rect S1024x3072 := Rect.unit ![0, 0] ![1024, 1024] inb_S1024x3072_S1024x1024_0_0
abbrev colsK : Rect S1024x3072 := Rect.unit ![0, 1024] ![1024, 1024] inb_S1024x3072_S1024x1024_0_1024
abbrev colsV : Rect S1024x3072 := Rect.unit ![0, 2048] ![1024, 1024] inb_S1024x3072_S1024x1024_0_2048

/-- What a grid step stores, the first and the later ones alike: its rows' queries, keys and values from the layer's weights. -/
theorem stored (c : Dev nD) (t : Fin cfg0.N) :
    (outsAt0 m c t.val t.isLt).1 = k0_pay5 (iblk m c 0 t) (iblk m c 1 t) (View.ld (flat (iblk m c 2 ⟨0, by decide⟩)) colsQ)
      ∧ (outsAt0 m c t.val t.isLt).2.1 = k0_pay6 (iblk m c 0 t) (iblk m c 1 t) (View.ld (flat (iblk m c 2 ⟨0, by decide⟩)) colsK)
      ∧ (outsAt0 m c t.val t.isLt).2.2.1 = k0_pay7 (iblk m c 0 t) (iblk m c 1 t) (View.ld (flat (iblk m c 2 ⟨0, by decide⟩)) colsV) := by
  by_cases h : t.val % 32 = 0
  · obtain rfl : t = ⟨0, by decide⟩ := Fin.ext (by have : t.val < 32 := t.isLt; show t.val = 0; omega)
    rw [outsAt0_A m c _ h]
    refine ⟨?_, ?_, ?_⟩ <;> frame_out
    · exact congrArg (k0_pay5 _ _) (stores_load ..)
    · exact congrArg (k0_pay6 _ _) (stores_load ..)
    · exact congrArg (k0_pay7 _ _) (stores_load ..)
  · have hk := kept m c (t.val - 1) (by have := t.isLt; omega)
    rw [outsAt0_B m c t h]
    refine ⟨?_, ?_, ?_⟩ <;> (frame_out; rw [(Memref.isWhole_whole _).read_unread, hk])

/-- The product of normed rows with the weights, as the mathematics of the argument arrays: position `s` of sequence `b`, column `f`. -/
def qkv (h : Vec Ideal S8x2048x1024 .f32) (g : Vec Ideal S4x1024 .f32) (w : Vec Ideal S2x1024x3072 .f32) (b : Fin 8) (s : Fin 2048)
    (f : Fin 3072) : EReal :=
  dotRow (fun j => h (ix3 b s j)) (fun j => g (ix2 0 j)) (fun j f => w (ix3 0 j f)) f

/-- The same at a row number of the flattened results. -/
def qkvRow (h : Vec Ideal S8x2048x1024 .f32) (g : Vec Ideal S4x1024 .f32) (w : Vec Ideal S2x1024x3072 .f32) (i : Fin 16384) (f : Fin 3072) : EReal :=
  qkv h g w ⟨(i : Nat) / 2048, by omega⟩ ⟨(i : Nat) % 2048, by omega⟩ f

/-- The three results: the queries scaled, the keys, the values. -/
def outQ (h : Vec Ideal S8x2048x1024 .f32) (g : Vec Ideal S4x1024 .f32) (w : Vec Ideal S2x1024x3072 .f32) : Vec Ideal S16384x1024 .bf16 :=
  fun i => qkvRow h g w (i 0) ⟨i 1, by have := (i 1).isLt; simp at this; omega⟩ * scale
def outK (h : Vec Ideal S8x2048x1024 .f32) (g : Vec Ideal S4x1024 .f32) (w : Vec Ideal S2x1024x3072 .f32) : Vec Ideal S16384x1024 .bf16 :=
  fun i => qkvRow h g w (i 0) ⟨1024 + i 1, by have := (i 1).isLt; simp at this; omega⟩
def outV (h : Vec Ideal S8x2048x1024 .f32) (g : Vec Ideal S4x1024 .f32) (w : Vec Ideal S2x1024x3072 .f32) : Vec Ideal S16384x1024 .bf16 :=
  fun i => qkvRow h g w (i 0) ⟨2048 + i 1, by have := (i 1).isLt; simp at this; omega⟩

/-- A column of the buffer's weights against a normed row of the block at a grid step. -/
theorem dot_block (c : Dev nD) (t : Fin cfg0.N) (r : Fin 512) (e : Fin 1024 → Fin 3072) (k : Fin 1024) (w : Vec Ideal S1024x1024 .bf16)
    (hw : ∀ j, w (ix2 j k) = flat (iblk m c 2 ⟨0, by decide⟩) (ix2 j (e k))) :
    ∑ j : Fin 1024, rms (fun j => iblk m c 0 t (ix2 r j)) (fun j => iblk m c 1 t (ix2 0 j)) j * w (ix2 j k)
      = qkvRow (m ((c : Thread nD τ).loc main_arg0)) (m ((c : Thread nD τ).loc main_arg1)) (m ((c : Thread nD τ).loc main_arg2))
          ⟨(t : Nat) * 512 + r, by have : (t : Nat) < 32 := t.isLt; omega⟩ (e k) := by
  unfold qkvRow qkv dotRow
  refine Finset.sum_congr rfl fun j _ => congrArg₂ (· * ·) ?_ ((hw j).trans (blk_weights m c _ j (e k)))
  exact congrArg₂ (fun x g => rms x g j) (funext fun k => (blk m c t r k).1) (funext fun k => (blk m c t r k).2)

/-- The result arrays after the run. -/
theorem final_q (c : Dev nD) : (dats m 0 c).arrAt 3 cfg0.N
    = outQ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, (stored m c t).1]
  idx_vars y
  have ht : ((View.whole main_v4_0).slice (win0_3.rect t)).emb (ix2 y0 y1)
      = ix2 (⟨(t : Nat) * 512 + y0, by have : (t : Nat) < 32 := t.isLt; omega⟩ : Fin 16384) y1 := by
    blk_ext [idx t]
  rw [ht, pay5_apply, dot_block m c t y0 (fun k => ⟨k, by omega⟩) y1 _ fun j => by pointwise [colsQ]]
  rfl

theorem final_k (c : Dev nD) : (dats m 0 c).arrAt 4 cfg0.N
    = outK (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, (stored m c t).2.1]
  idx_vars y
  have ht : ((View.whole main_v4_1).slice (win0_4.rect t)).emb (ix2 y0 y1)
      = ix2 (⟨(t : Nat) * 512 + y0, by have : (t : Nat) < 32 := t.isLt; omega⟩ : Fin 16384) y1 := by
    blk_ext [idx t]
  rw [ht, pay6_apply, dot_block m c t y0 (fun k => ⟨1024 + k, by omega⟩) y1 _ fun j => by pointwise [colsK]]
  rfl

theorem final_v (c : Dev nD) : (dats m 0 c).arrAt 5 cfg0.N
    = outV (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, (stored m c t).2.2]
  idx_vars y
  have ht : ((View.whole main_v4_2).slice (win0_5.rect t)).emb (ix2 y0 y1)
      = ix2 (⟨(t : Nat) * 512 + y0, by have : (t : Nat) < 32 := t.isLt; omega⟩ : Fin 16384) y1 := by
    blk_ext [idx t]
  rw [ht, pay7_apply, dot_block m c t y0 (fun k => ⟨2048 + k, by omega⟩) y1 _ fun j => by pointwise [colsV]]
  rfl

end Cert.Kernel4Ideal.RefValue

namespace Cert.Reference4Ideal.RefValue

open Cert.Reference4Ideal Cert.Reference4Ideal.Read Cert.MlpSpec

section

variable (h : Vec Ideal S8x2048x1024 .f32) (g : Vec Ideal S4x1024 .f32) (w : Vec Ideal S2x1024x3072 .f32)

/-- The reference's normed row, -/
theorem norm_apply (b : Fin 8) (s : Fin 2048) (k : Fin 1024) : val_main_v14 h g (ix3 b s k)
    = rms (fun j => h (ix3 b s j)) (fun j => g (ix2 0 j)) k := by
  pointwise [val_main_v14, val_main_v13, val_main_v12, val_main_v11, val_main_v10, val_main_v9, val_main_v8, val_main_v7, val_main_cst_1,
    val_main_v6, val_main_v5, val_main_cst_0, val_main_v4, val_main_v3, val_main_cst, val_main_v2, val_main_v1, val_main_v0]
  rfl

/-- its product with the weights, -/
theorem qkv_apply (b : Fin 8) (s : Fin 2048) (f : Fin 3072) : val_main_v17 h g w (ix3 b s f) = Cert.Kernel4Ideal.RefValue.qkv h g w b s f := by
  pointwise [val_main_v17, val_main_v16, val_main_v15, norm_apply]
  rfl

/-- and its three results. -/
theorem q_eq : val_main_v24 h g w = Cert.Kernel4Ideal.RefValue.outQ h g w := by
  funext i
  idx_vars i
  pointwise [val_main_v24, val_main_v23, val_main_v22, val_main_v21, val_main_cst_2, val_main_v18, qkv_apply]
  rfl

theorem k_eq : val_main_v26 h g w = Cert.Kernel4Ideal.RefValue.outK h g w := by
  funext i
  idx_vars i
  pointwise [val_main_v26, val_main_v25, val_main_v19, qkv_apply]
  rfl

theorem v_eq : val_main_v28 h g w = Cert.Kernel4Ideal.RefValue.outV h g w := by
  funext i
  idx_vars i
  pointwise [val_main_v28, val_main_v27, val_main_v20, qkv_apply]
  rfl

end

end Cert.Reference4Ideal.RefValue

namespace Cert.Proof.Qkv

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- The queries, keys and values the kernel leaves are the reference's. -/
theorem algebraic : Cert.algebraic_Kernel4Ideal_Reference4Ideal := by
  pair_intro
  · run_from Cert.Kernel4Ideal.Value.run_blocks m g
  · run_from Cert.Reference4Ideal.Value.run m' g'
    · exact (Cert.Reference4Ideal.Read.val_main_v24_eq ..).trans ((Cert.Reference4Ideal.RefValue.q_eq ..).trans (Cert.Kernel4Ideal.RefValue.final_q m c).symm)
    · exact (Cert.Reference4Ideal.Read.val_main_v26_eq ..).trans ((Cert.Reference4Ideal.RefValue.k_eq ..).trans (Cert.Kernel4Ideal.RefValue.final_k m c).symm)
    · exact (Cert.Reference4Ideal.Read.val_main_v28_eq ..).trans ((Cert.Reference4Ideal.RefValue.v_eq ..).trans (Cert.Kernel4Ideal.RefValue.final_v m c).symm)

end Cert.Proof.Qkv

end
-- ==== Proof.RecCut.lean ====
module

public import proofs.«01_k».proof.Proof.Gen.KernelIdeal.Frame
public import proofs.«01_k».proof.Proof.Gen.KernelIdeal.Loops
public import Idealize.ShloMosaic.Lib.Tactic.Stretches
public import Idealize.ShloMosaic.Lib.Tactic.OpenCalls

/-!
# The recurrent layer's kernel, cut into seven stretches

One grid step of the recurrent layer's front (norm, input projection, short convolution, gates, recurrence, gelu gate) handles 64
time steps of all eight sequences.  The stretches are: the first step's preparation (1), the input projection of the first half
of the rows (2), their convolution, gates and recurrence inputs together with the second half's projection (3), the second
half's convolution and gates (4), the rows handed to the next step (5), the recurrence (6), and the output (7).
-/

@[expose] public section

set_option maxRecDepth 65536

noncomputable section

namespace Cert.Rec

open Idealize.ShloMosaic Idealize.ShloMosaic.TcCoe Idealize.ShloMosaic.Tactic
open Idealize.SL Idealize.SL.Sem
open Cert.KernelIdeal Cert.KernelIdeal.Gen

variable {F : FTy → Type} [FloatOps F] [Named F]

set_option maxHeartbeats 4000000 in
open_calls opened := cc0_rec_front_skel [k0_part24]

set_option maxHeartbeats 4000000 in
cut_chain mono s := opened at 2, 5, 16, 24, 30, 31

end Cert.Rec
-- ==== Proof.RecBase.lean ====
module

public import proofs.«01_k».proof.Proof.RecCut

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Core `c`'s whole buffer `a` with contents `f`. -/
abbrev held (c : Dev nD) {s : Shape} {e : EltTy} (a : Memref sig .tc .vmem s e) (f : BufTy.Contents (Elt F) a.view.ty) : sProp 𝕄 :=
  a.view.loc (c : Thread nD τ) ↦[a.view.set]{fullShare} f

end Cert.Rec
-- ==== Proof.RecS5.lean ====
module

public import proofs.«01_k».proof.Proof.RecBase

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

/-- The last recurrence inputs, and the last rows kept for the next grid step. -/
def HandOverRun (hal : Vec F S24x1024 .f32) (p0 p1 : Vec F S256x1024 .f32) (car : Vec F S8x1024 .f32) (v668 : FVec F S256x1024 .f32) (v959 v965 v966 : FVec F S256x128 .f32)  (v978 : Vec F S8x1024 .f32) (hal' : Vec F S24x1024 .f32) (L13 : List (View.Piece (Elt F) S512x1024 .f32)) : Prop :=
  ∀ (E : Set ℕ) (κ : Vec F S8x1024 .f32 → Prog (TpuEff nD τ sig (Elt F) Λ₀ .tc) PUnit) (Q : PUnit → sProp 𝕄) (f11 : BufTy.Contents (Elt F) a11.view.ty) (f13 : BufTy.Contents (Elt F) a13.view.ty) (f16 : BufTy.Contents (Elt F) a16.view.ty),
    iprop(held c a11 (a11.view.writes (Elt F) f11 [⟨Rect.unit (s := S536x1024) ![280, 0] S256x1024.size (by decide), p1⟩, ⟨Rect.unit (s := S536x1024) ![24, 0] S256x1024.size (by decide), p0⟩, ⟨Rect.unit (s := S536x1024) ![0, 0] S24x1024.size (by decide), hal⟩]) ∗ held c a13 f13 ∗ held c a16 (a16.view.writes (Elt F) f16 [⟨Rect.unit (s := S8x1024) ![0, 0] S8x1024.size (by decide), car⟩])
      ∗ (iprop(held c a11 (a11.view.writes (Elt F) f11 [⟨Rect.unit (s := S536x1024) ![0, 0] S24x1024.size (by decide), hal'⟩, ⟨Rect.unit (s := S536x1024) ![280, 0] S256x1024.size (by decide), p1⟩, ⟨Rect.unit (s := S536x1024) ![24, 0] S256x1024.size (by decide), p0⟩, ⟨Rect.unit (s := S536x1024) ![0, 0] S24x1024.size (by decide), hal⟩]) ∗ held c a13 (a13.view.writes (Elt F) f13 L13) ∗ held c a16 (a16.view.writes (Elt F) f16 [⟨Rect.unit (s := S8x1024) ![0, 0] S8x1024.size (by decide), car⟩])) -∗ wp frame (wpE (defs₀ (F := F)) Variants.none c none) E (κ v978) Q))
    ⊢ wp frame (wpE (defs₀ (F := F)) Variants.none c none) E (s5 a11 a13 a16 v668 v959 v965 v966 κ) Q

set_option maxHeartbeats 4000000 in
/-- The values for which `HandOverRun` holds. -/
noncomputable def handOver (hal : Vec F S24x1024 .f32) (p0 p1 : Vec F S256x1024 .f32) (car : Vec F S8x1024 .f32) (v668 : FVec F S256x1024 .f32) (v959 v965 v966 : FVec F S256x128 .f32)  :
    Σ' (v978 : Vec F S8x1024 .f32) (hal' : Vec F S24x1024 .f32), { L13 : List (View.Piece (Elt F) S512x1024 .f32) // HandOverRun c a11 a13 a16 hal p0 p1 car v668 v959 v965 v966 v978 hal' L13 } := by
  refine ⟨?_, ?_, ?_, fun E κ Q f11 f13 f16 => ?run⟩
  case run =>
    unfold held
    iintro ⟨H11, H13, H16, Hk⟩
    sl_exec
    iapply Hk
    isplitl [H11]; · iexact H11
    isplitl [H13]; · iexact H13
    iexact H16

/-- The recurrence over the 64 time steps. -/
def LoopRun (v19 : FVec F S64x64 .bf16) (v668 : FVec F S256x1024 .f32) (v959 v965 v966 : FVec F S256x128 .f32) (v978 : Vec F S8x1024 .f32) (x12 : Vec F S512x1024 .f32) (x13 : Vec F S512x1024 .f32) (v980 : Vec F S8x1024 .f32) (L14 : List (View.Piece (Elt F) S512x1024 .f32)) : Prop :=
  ∀ (E : Set ℕ) (κ : Vec F S8x1024 .f32 → Prog (TpuEff nD τ sig (Elt F) Λ₀ .tc) PUnit) (Q : PUnit → sProp 𝕄) (f14 : BufTy.Contents (Elt F) a14.view.ty),
    iprop(held c a12 (h12.unread x12) ∗ held c a13 (h13.unread x13) ∗ held c a14 f14
      ∗ (iprop(held c a12 (h12.unread x12) ∗ held c a13 (h13.unread x13) ∗ held c a14 (a14.view.writes (Elt F) f14 L14)) -∗ wp frame (wpE (defs₀ (F := F)) Variants.none c none) E (κ v980) Q))
    ⊢ wp frame (wpE (defs₀ (F := F)) Variants.none c none) E (s6 i a1 h1 a2 h2 a3 h3 a4 h4 a5 h5 a6 h6 a7 h7 a8 h8 a9 h9 a10 h10 a11 h11 a12 h12 a13 h13 a14 h14 a15 h15 a16 h16 a17 h17 v19 v668 v959 v965 v966 v978 κ) Q

set_option maxHeartbeats 4000000 in
/-- The values for which `LoopRun` holds. -/
noncomputable def loop (v19 : FVec F S64x64 .bf16) (v668 : FVec F S256x1024 .f32) (v959 v965 v966 : FVec F S256x128 .f32) (v978 : Vec F S8x1024 .f32) (x12 : Vec F S512x1024 .f32) (x13 : Vec F S512x1024 .f32) :
    Σ' (v980 : Vec F S8x1024 .f32), { L14 : List (View.Piece (Elt F) S512x1024 .f32) // LoopRun c i a1 h1 a2 h2 a3 h3 a4 h4 a5 h5 a6 h6 a7 h7 a8 h8 a9 h9 a10 h10 a11 h11 a12 h12 a13 h13 a14 h14 a15 h15 a16 h16 a17 h17 v19 v668 v959 v965 v966 v978 x12 x13 v980 L14 } := by
  refine ⟨?_, ?_, fun E κ Q f14 => ?run⟩
  case run =>
    unfold held
    iintro ⟨H12, H13, H14, Hk⟩
    sl_exec
    iapply Hk
    isplitl [H12]; · iexact H12
    isplitl [H13]; · iexact H13
    iexact H14

/-- The last state kept, and the gated hidden states brought to sequence order and stored. -/
def OutputRun (v19 : FVec F S64x64 .bf16) (v980 : Vec F S8x1024 .f32) (x14 : Vec F S512x1024 .f32) (x15 : Vec F S512x1024 .f32) (car' : Vec F S8x1024 .f32) (L10 : List (View.Piece (Elt F) S8x64x1024 .bf16)) : Prop :=
  ∀ (E : Set ℕ) (κ : Prog (TpuEff nD τ sig (Elt F) Λ₀ .tc) PUnit) (Q : PUnit → sProp 𝕄) (f16 : BufTy.Contents (Elt F) a16.view.ty) (f10 : BufTy.Contents (Elt F) a10.view.ty),
    iprop(held c a14 (h14.unread x14) ∗ held c a15 (h15.unread x15) ∗ held c a16 f16 ∗ held c a10 f10
      ∗ (iprop(held c a14 (h14.unread x14) ∗ held c a15 (h15.unread x15) ∗ held c a16 (a16.view.writes (Elt F) f16 [⟨Rect.unit (s := S8x1024) ![0, 0] S8x1024.size (by decide), car'⟩]) ∗ held c a10 (a10.view.writes (Elt F) f10 L10)) -∗ wp frame (wpE (defs₀ (F := F)) Variants.none c none) E (κ) Q))
    ⊢ wp frame (wpE (defs₀ (F := F)) Variants.none c none) E (s7 i a1 h1 a2 h2 a3 h3 a4 h4 a5 h5 a6 h6 a7 h7 a8 h8 a9 h9 a10 h10 a11 h11 a12 h12 a13 h13 a14 h14 a15 h15 a16 h16 a17 h17 v19 v980 κ) Q

set_option maxHeartbeats 4000000 in
/-- The values for which `OutputRun` holds. -/
noncomputable def output (v19 : FVec F S64x64 .bf16) (v980 : Vec F S8x1024 .f32) (x14 : Vec F S512x1024 .f32) (x15 : Vec F S512x1024 .f32) :
    Σ' (car' : Vec F S8x1024 .f32), { L10 : List (View.Piece (Elt F) S8x64x1024 .bf16) // OutputRun c i a1 h1 a2 h2 a3 h3 a4 h4 a5 h5 a6 h6 a7 h7 a8 h8 a9 h9 a10 h10 a11 h11 a12 h12 a13 h13 a14 h14 a15 h15 a16 h16 a17 h17 v19 v980 x14 x15 car' L10 } := by
  refine ⟨?_, ?_, fun E κ Q f16 f10 => ?run⟩
  case run =>
    unfold held
    try simp only [k0_part25_eq_skeleton, k0_part26_eq_skeleton, k0_part27_eq_skeleton]
    iintro ⟨H14, H15, H16, H10, Hk⟩
    sl_exec
    iapply Hk
    isplitl [H14]; · iexact H14
    isplitl [H15]; · iexact H15
    isplitl [H16]; · iexact H16
    iexact H10

end Cert.Rec
-- ==== Proof.RecLoop.lean ====
module

public import proofs.«01_k».proof.Proof.RecS5
public import Idealize.ShloMosaic.Lib.Pipeline.ValueKit

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

theorem trips_eq : k0_t1_loop.trips = 64 := by decide +kernel

/-- Trip `k` reads and writes the eight rows of time step `k`. -/
theorem off1 (k : Fin k0_t1_loop.trips) : k0_off1 k = ![8 * (k : ℕ), 0] := by
  have h : ∀ k : Fin k0_t1_loop.trips, k0_off1 k 0 = 8 * (k : ℕ) ∧ k0_off1 k 1 = 0 := by decide +kernel
  funext a
  match a with
  | ⟨0, _⟩ => exact (h k).1
  | ⟨1, _⟩ => exact (h k).2

/-- The state after `n` time steps from `car`: the state times `A`'s rows of the step, plus `B`'s. -/
def hid (A B : Vec F S512x1024 .f32) (car : Vec F S8x1024 .f32) : ℕ → Vec F S8x1024 .f32
  | 0 => car
  | n + 1 =>
    if h : n < k0_t1_loop.trips then
      k0_pay139 (hid A B car n) (View.ld A (Rect.unit (s := S512x1024) (k0_off1 ⟨n, h⟩) S8x1024.size (k0_off1_inb ⟨n, h⟩)))
        (View.ld B (Rect.unit (s := S512x1024) (k0_off1 ⟨n, h⟩) S8x1024.size (k0_off1_inb ⟨n, h⟩)))
    else hid A B car n

theorem hid_succ (A B : Vec F S512x1024 .f32) (car : Vec F S8x1024 .f32) (k : Fin k0_t1_loop.trips) :
    hid A B car (k + 1) = k0_pay139 (hid A B car k) (View.ld A (Rect.unit (s := S512x1024) (k0_off1 k) S8x1024.size (k0_off1_inb k)))
        (View.ld B (Rect.unit (s := S512x1024) (k0_off1 k) S8x1024.size (k0_off1_inb k))) := by
  rw [hid, dif_pos k.isLt]

/-- Row `8 * t + b` holds the state of sequence `b` after step `t`. -/
def states (A B : Vec F S512x1024 .f32) (car : Vec F S8x1024 .f32) : Vec F S512x1024 .f32 := fun y =>
  hid A B car ((y 0 : ℕ) / 8 + 1) (ix2 ⟨(y 0 : ℕ) % 8, Nat.mod_lt _ (by decide)⟩ (y 1))

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (v19 : FVec F S64x64 .bf16) (v668 : FVec F S256x1024 .f32) (v959 v965 v966 : FVec F S256x128 .f32) (v978 : Vec F S8x1024 .f32) (x12 x13 : Vec F S512x1024 .f32)

theorem tripR (k : Fin k0_t1_loop.trips) (acc : Vec F S8x1024 .f32) :
    tripR_k0_t1 (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) k acc
      = k0_pay139 acc (View.ld x12 (Rect.unit (s := S512x1024) (k0_off1 k) S8x1024.size (k0_off1_inb k)))
        (View.ld x13 (Rect.unit (s := S512x1024) (k0_off1 k) S8x1024.size (k0_off1_inb k))) := by
  obtain ⟨g12, rfl⟩ : ∃ g, x12 = a12.view.read (Elt F) g := ⟨_, (h12.read_unread x12).symm⟩
  obtain ⟨g13, rfl⟩ : ∃ g, x13 = a13.view.read (Elt F) g := ⟨_, (h13.read_unread x13).symm⟩
  simp only [Memref.IsWhole.unread_read]
  unfold tripR_k0_t1 trip_k0_t1
  rfl

theorem tripL (k : Fin k0_t1_loop.trips) (acc : Vec F S8x1024 .f32) :
    tripL_k0_t1 (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) k acc
      = [⟨Rect.unit (s := S512x1024) (k0_off1 k) S8x1024.size (k0_off1_inb k),
          k0_pay139 acc (View.ld x12 (Rect.unit (s := S512x1024) (k0_off1 k) S8x1024.size (k0_off1_inb k)))
        (View.ld x13 (Rect.unit (s := S512x1024) (k0_off1 k) S8x1024.size (k0_off1_inb k)))⟩] := by
  have e : ∀ a b d : Vec F S8x1024 .f32, k0_pay140 a b d = k0_pay139 a b d := fun a b d => by
    unfold k0_pay140; exact shapeCast_self _ _
  obtain ⟨g12, rfl⟩ : ∃ g, x12 = a12.view.read (Elt F) g := ⟨_, (h12.read_unread x12).symm⟩
  obtain ⟨g13, rfl⟩ : ∃ g, x13 = a13.view.read (Elt F) g := ⟨_, (h13.read_unread x13).symm⟩
  simp only [Memref.IsWhole.unread_read]
  unfold tripL_k0_t1 trip_k0_t1
  dsimp only
  rw [e]
  rfl

theorem st_fst (n : ℕ) (hn : n ≤ k0_t1_loop.trips) :
    (st_k0_t1 (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) v978 n).1
      = hid x12 x13 v978 n := by
  induction n with
  | zero => rfl
  | succ n ih =>
    have hs := st_k0_t1_succ (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) v978 ⟨n, hn⟩
    dsimp only at hs
    rw [hs, ih (Nat.le_of_lt hn), tripR, hid_succ x12 x13 v978 ⟨n, hn⟩]

theorem st_snd (f : BufTy.Contents (Elt F) a14.view.ty) (n : ℕ) (hn : n ≤ k0_t1_loop.trips) (y : S512x1024.Idx) (hy : (y 0 : ℕ) < 8 * n) :
    a14.view.read (Elt F) (a14.view.writes (Elt F) f (st_k0_t1 (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) v978 n).2) y
      = states x12 x13 v978 y := by
  induction n with
  | zero => exact absurd hy (by omega)
  | succ n ih =>
    have hs := st_k0_t1_succ (F := F) Variants.none c none i a1 h1 a2 h2 a3 h3 a4 h4 a5 h5 a6 h6 a7 h7 a8 h8 a9 h9 a10 h10 a11 h11 a12 h12 a13 h13 a14 h14 a15 h15 a16 h16 a17 h17 v19 v668 v959 v965 v966 (h12.unread x12) (h13.unread x13) v978 ⟨n, hn⟩
    dsimp only at hs
    rw [hs, st_fst _ _ _ _ _ _ _ _ _ _ _ _ _ _ _ _ _ _ _ _ _ _ _ _ _ _ _ _ _ _ _ _ _ _ _ _ _ _ _ _ _ _ _ _ n (Nat.le_of_lt hn), tripL,
      List.singleton_append]
    have ho := off1 ⟨n, hn⟩
    by_cases h : (y 0 : ℕ) < 8 * n
    · rw [View.read_writes_cons_miss_of_axis _ _ _ _ y 0 (8 * n) 8 (congrFun ho 0) rfl rfl (Or.inl h)]
      exact ih (Nat.le_of_lt hn) h
    · rw [View.read_writes_cons_hit_of_coords _ _ _ _ _ (ix2 ⟨(y 0 : ℕ) % 8, Nat.mod_lt _ (by decide)⟩ (y 1)) y]
      · have e : (y 0 : ℕ) / 8 = n := by omega
        unfold states
        rw [e]
        exact congrFun (hid_succ x12 x13 v978 ⟨n, hn⟩).symm _
      · intro a
        match a with
        | ⟨0, _⟩ =>
          have e : k0_off1 ⟨n, hn⟩ 0 = 8 * n := congrFun ho 0
          show (y 0 : ℕ) = k0_off1 ⟨n, hn⟩ 0 + 1 * ((y 0 : ℕ) % 8)
          rw [e]; omega
        | ⟨1, _⟩ =>
          have e : k0_off1 ⟨n, hn⟩ 1 = 0 := congrFun ho 1
          show (y 1 : ℕ) = k0_off1 ⟨n, hn⟩ 1 + 1 * (y 1 : ℕ)
          rw [e]; omega

/-- The loop leaves the state after 64 steps, -/
theorem loop_fst : (loop (F := F) c i a1 h1 a2 h2 a3 h3 a4 h4 a5 h5 a6 h6 a7 h7 a8 h8 a9 h9 a10 h10 a11 h11 a12 h12 a13 h13 a14 h14 a15 h15 a16 h16 a17 h17 v19 v668 v959 v965 v966 v978 x12 x13).1 = hid x12 x13 v978 64 := by
  unfold loop
  exact st_fst _ _ _ _ _ _ _ _ _ _ _ _ _ _ _ _ _ _ _ _ _ _ _ _ _ _ _ _ _ _ _ _ _ _ _ _ _ _ _ _ _ _ _ _ k0_t1_loop.trips le_rfl |>.trans (by rw [trips_eq])

/-- and, in the rows of every step, the state after it. -/
theorem loop_snd (f : BufTy.Contents (Elt F) a14.view.ty) :
    a14.view.writes (Elt F) f (loop (F := F) c i a1 h1 a2 h2 a3 h3 a4 h4 a5 h5 a6 h6 a7 h7 a8 h8 a9 h9 a10 h10 a11 h11 a12 h12 a13 h13 a14 h14 a15 h15 a16 h16 a17 h17 v19 v668 v959 v965 v966 v978 x12 x13).2.1 = h14.unread (states x12 x13 v978) := by
  refine h14.eq_unread (funext fun y => ?_)
  unfold loop
  exact st_snd _ _ _ _ _ _ _ _ _ _ _ _ _ _ _ _ _ _ _ _ _ _ _ _ _ _ _ _ _ _ _ _ _ _ _ _ _ _ _ _ _ _ _ _ f k0_t1_loop.trips le_rfl y
    (by have : (y 0 : ℕ) < 512 := (y 0).isLt; rw [trips_eq]; omega)

end Cert.Rec
-- ==== Proof.RecS2.lean ====
module

public import proofs.«01_k».proof.Proof.RecBase

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

/-- The first half of the rows projected: the convolution rows into `a11`, the gate rows through gelu into `a15`. -/
def ProjectRun (hal : Vec F S24x1024 .f32) (wl wr : Vec F S1024x1024 .bf16) (v19 : FVec F S64x64 .bf16) (v21 : FVec F S512x1024 .f32) (v38 : FVec F S8x1024 .f32) (v39 : FVec F S8x1024 .f32) (x2 : Vec F S1x1024 .f32) (x4 : Vec F S1x2048 .f32) (P0 : Vec F S256x1024 .f32) (L15 : List (View.Piece (Elt F) S512x1024 .f32)) : Prop :=
  ∀ (E : Set ℕ) (κ : Prog (TpuEff nD τ sig (Elt F) Λ₀ .tc) PUnit) (Q : PUnit → sProp 𝕄) (f17 : BufTy.Contents (Elt F) a17.view.ty) (f11 : BufTy.Contents (Elt F) a11.view.ty) (f15 : BufTy.Contents (Elt F) a15.view.ty),
    iprop(held c a2 (h2.unread x2) ∗ held c a4 (h4.unread x4) ∗ held c a17 (a17.view.writes (Elt F) f17 [⟨Rect.unit (s := S1024x2048) ![0, 1024] S1024x1024.size (by decide), wr⟩, ⟨Rect.unit (s := S1024x2048) ![0, 0] S1024x1024.size (by decide), wl⟩]) ∗ held c a11 (a11.view.writes (Elt F) f11 [⟨Rect.unit (s := S536x1024) ![0, 0] S24x1024.size (by decide), hal⟩]) ∗ held c a15 f15
      ∗ (iprop(held c a2 (h2.unread x2) ∗ held c a4 (h4.unread x4) ∗ held c a17 (a17.view.writes (Elt F) f17 [⟨Rect.unit (s := S1024x2048) ![0, 1024] S1024x1024.size (by decide), wr⟩, ⟨Rect.unit (s := S1024x2048) ![0, 0] S1024x1024.size (by decide), wl⟩]) ∗ held c a11 (a11.view.writes (Elt F) f11 [⟨Rect.unit (s := S536x1024) ![24, 0] S256x1024.size (by decide), P0⟩, ⟨Rect.unit (s := S536x1024) ![0, 0] S24x1024.size (by decide), hal⟩]) ∗ held c a15 (a15.view.writes (Elt F) f15 L15)) -∗ wp frame (wpE (defs₀ (F := F)) Variants.none c none) E (κ) Q))
    ⊢ wp frame (wpE (defs₀ (F := F)) Variants.none c none) E (s2 i a1 h1 a2 h2 a3 h3 a4 h4 a5 h5 a6 h6 a7 h7 a8 h8 a9 h9 a10 h10 a11 h11 a12 h12 a13 h13 a14 h14 a15 h15 a16 h16 a17 h17 v19 v21 v38 v39 κ) Q

set_option maxHeartbeats 4000000 in
/-- The values for which `ProjectRun` holds. -/
noncomputable def project (hal : Vec F S24x1024 .f32) (wl wr : Vec F S1024x1024 .bf16) (v19 : FVec F S64x64 .bf16) (v21 : FVec F S512x1024 .f32) (v38 : FVec F S8x1024 .f32) (v39 : FVec F S8x1024 .f32) (x2 : Vec F S1x1024 .f32) (x4 : Vec F S1x2048 .f32) :
    Σ' (P0 : Vec F S256x1024 .f32), { L15 : List (View.Piece (Elt F) S512x1024 .f32) // ProjectRun c i a1 h1 a2 h2 a3 h3 a4 h4 a5 h5 a6 h6 a7 h7 a8 h8 a9 h9 a10 h10 a11 h11 a12 h12 a13 h13 a14 h14 a15 h15 a16 h16 a17 h17 hal wl wr v19 v21 v38 v39 x2 x4 P0 L15 } := by
  refine ⟨?_, ?_, fun E κ Q f17 f11 f15 => ?run⟩
  case run =>
    unfold held
    try simp only [k0_part2_eq_skeleton, k0_part3_eq_skeleton, k0_part4_eq_skeleton]
    iintro ⟨H2, H4, H17, H11, H15, Hk⟩
    sl_exec
    iapply Hk
    isplitl [H2]; · iexact H2
    isplitl [H4]; · iexact H4
    isplitl [H17]; · iexact H17
    isplitl [H11]; · iexact H11
    iexact H15

end Cert.Rec
-- ==== Proof.RecS3.lean ====
module

public import proofs.«01_k».proof.Proof.RecBase

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

/-- The first half convolved and gated into `a12` and `a13`; the second half projected. -/
def MiddleRun (hal : Vec F S24x1024 .f32) (p0 : Vec F S256x1024 .f32) (wl wr : Vec F S1024x1024 .bf16) (v19 : FVec F S64x64 .bf16) (v21 : FVec F S512x1024 .f32) (v37 : FVec F S1x1024 .f32) (x2 : Vec F S1x1024 .f32) (x4 : Vec F S1x2048 .f32) (x5 : Vec F S4x1024 .f32) (x6 : Vec F S1x1024 .f32) (x7 : Vec F S8x128x256 .bf16) (x8 : Vec F S8x1x256 .f32) (v638 : FVec F S256x1024 .f32) (P1 : Vec F S256x1024 .f32) (L15 : List (View.Piece (Elt F) S512x1024 .f32)) (L12 : List (View.Piece (Elt F) S512x1024 .f32)) (L13 : List (View.Piece (Elt F) S512x1024 .f32)) : Prop :=
  ∀ (E : Set ℕ) (κ : FVec F S256x1024 .f32 → Prog (TpuEff nD τ sig (Elt F) Λ₀ .tc) PUnit) (Q : PUnit → sProp 𝕄) (f17 : BufTy.Contents (Elt F) a17.view.ty) (f11 : BufTy.Contents (Elt F) a11.view.ty) (f15 : BufTy.Contents (Elt F) a15.view.ty) (f12 : BufTy.Contents (Elt F) a12.view.ty) (f13 : BufTy.Contents (Elt F) a13.view.ty),
    iprop(held c a2 (h2.unread x2) ∗ held c a4 (h4.unread x4) ∗ held c a5 (h5.unread x5) ∗ held c a6 (h6.unread x6) ∗ held c a7 (h7.unread x7) ∗ held c a8 (h8.unread x8) ∗ held c a17 (a17.view.writes (Elt F) f17 [⟨Rect.unit (s := S1024x2048) ![0, 1024] S1024x1024.size (by decide), wr⟩, ⟨Rect.unit (s := S1024x2048) ![0, 0] S1024x1024.size (by decide), wl⟩]) ∗ held c a11 (a11.view.writes (Elt F) f11 [⟨Rect.unit (s := S536x1024) ![24, 0] S256x1024.size (by decide), p0⟩, ⟨Rect.unit (s := S536x1024) ![0, 0] S24x1024.size (by decide), hal⟩]) ∗ held c a15 f15 ∗ held c a12 f12 ∗ held c a13 f13
      ∗ (iprop(held c a2 (h2.unread x2) ∗ held c a4 (h4.unread x4) ∗ held c a5 (h5.unread x5) ∗ held c a6 (h6.unread x6) ∗ held c a7 (h7.unread x7) ∗ held c a8 (h8.unread x8) ∗ held c a17 (a17.view.writes (Elt F) f17 [⟨Rect.unit (s := S1024x2048) ![0, 1024] S1024x1024.size (by decide), wr⟩, ⟨Rect.unit (s := S1024x2048) ![0, 0] S1024x1024.size (by decide), wl⟩]) ∗ held c a11 (a11.view.writes (Elt F) f11 [⟨Rect.unit (s := S536x1024) ![280, 0] S256x1024.size (by decide), P1⟩, ⟨Rect.unit (s := S536x1024) ![24, 0] S256x1024.size (by decide), p0⟩, ⟨Rect.unit (s := S536x1024) ![0, 0] S24x1024.size (by decide), hal⟩]) ∗ held c a15 (a15.view.writes (Elt F) f15 L15) ∗ held c a12 (a12.view.writes (Elt F) f12 L12) ∗ held c a13 (a13.view.writes (Elt F) f13 L13)) -∗ wp frame (wpE (defs₀ (F := F)) Variants.none c none) E (κ v638) Q))
    ⊢ wp frame (wpE (defs₀ (F := F)) Variants.none c none) E (s3 i a1 h1 a2 h2 a3 h3 a4 h4 a5 h5 a6 h6 a7 h7 a8 h8 a9 h9 a10 h10 a11 h11 a12 h12 a13 h13 a14 h14 a15 h15 a16 h16 a17 h17 v19 v21 v37 κ) Q

set_option maxHeartbeats 4000000 in
/-- The values for which `MiddleRun` holds. -/
noncomputable def middle (hal : Vec F S24x1024 .f32) (p0 : Vec F S256x1024 .f32) (wl wr : Vec F S1024x1024 .bf16) (v19 : FVec F S64x64 .bf16) (v21 : FVec F S512x1024 .f32) (v37 : FVec F S1x1024 .f32) (x2 : Vec F S1x1024 .f32) (x4 : Vec F S1x2048 .f32) (x5 : Vec F S4x1024 .f32) (x6 : Vec F S1x1024 .f32) (x7 : Vec F S8x128x256 .bf16) (x8 : Vec F S8x1x256 .f32) :
    Σ' (v638 : FVec F S256x1024 .f32) (P1 : Vec F S256x1024 .f32) (L15 : List (View.Piece (Elt F) S512x1024 .f32)) (L12 : List (View.Piece (Elt F) S512x1024 .f32)), { L13 : List (View.Piece (Elt F) S512x1024 .f32) // MiddleRun c i a1 h1 a2 h2 a3 h3 a4 h4 a5 h5 a6 h6 a7 h7 a8 h8 a9 h9 a10 h10 a11 h11 a12 h12 a13 h13 a14 h14 a15 h15 a16 h16 a17 h17 hal p0 wl wr v19 v21 v37 x2 x4 x5 x6 x7 x8 v638 P1 L15 L12 L13 } := by
  refine ⟨?_, ?_, ?_, ?_, ?_, fun E κ Q f17 f11 f15 f12 f13 => ?run⟩
  case run =>
    unfold held
    try simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H2, H4, H5, H6, H7, H8, H17, H11, H15, H12, H13, Hk⟩
    sl_exec
    iapply Hk
    isplitl [H2]; · iexact H2
    isplitl [H4]; · iexact H4
    isplitl [H5]; · iexact H5
    isplitl [H6]; · iexact H6
    isplitl [H7]; · iexact H7
    isplitl [H8]; · iexact H8
    isplitl [H17]; · iexact H17
    isplitl [H11]; · iexact H11
    isplitl [H15]; · iexact H15
    isplitl [H12]; · iexact H12
    iexact H13

end Cert.Rec
-- ==== Proof.RecS4.lean ====
module

public import proofs.«01_k».proof.Proof.RecBase

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

/-- The second half convolved and gated. -/
def UpperRun (hal : Vec F S24x1024 .f32) (p0 p1 : Vec F S256x1024 .f32) (v37 : FVec F S1x1024 .f32) (v638 : FVec F S256x1024 .f32) (x5 : Vec F S4x1024 .f32) (x6 : Vec F S1x1024 .f32) (x7 : Vec F S8x128x256 .bf16) (x8 : Vec F S8x1x256 .f32) (v668 : FVec F S256x1024 .f32) (v959 : FVec F S256x128 .f32) (v965 : FVec F S256x128 .f32) (v966 : FVec F S256x128 .f32) (L15 : List (View.Piece (Elt F) S512x1024 .f32)) (L12 : List (View.Piece (Elt F) S512x1024 .f32)) (L13 : List (View.Piece (Elt F) S512x1024 .f32)) : Prop :=
  ∀ (E : Set ℕ) (κ : FVec F S256x1024 .f32 → FVec F S256x128 .f32 → FVec F S256x128 .f32 → FVec F S256x128 .f32 → Prog (TpuEff nD τ sig (Elt F) Λ₀ .tc) PUnit) (Q : PUnit → sProp 𝕄) (f11 : BufTy.Contents (Elt F) a11.view.ty) (f15 : BufTy.Contents (Elt F) a15.view.ty) (f12 : BufTy.Contents (Elt F) a12.view.ty) (f13 : BufTy.Contents (Elt F) a13.view.ty),
    iprop(held c a5 (h5.unread x5) ∗ held c a6 (h6.unread x6) ∗ held c a7 (h7.unread x7) ∗ held c a8 (h8.unread x8) ∗ held c a11 (a11.view.writes (Elt F) f11 [⟨Rect.unit (s := S536x1024) ![280, 0] S256x1024.size (by decide), p1⟩, ⟨Rect.unit (s := S536x1024) ![24, 0] S256x1024.size (by decide), p0⟩, ⟨Rect.unit (s := S536x1024) ![0, 0] S24x1024.size (by decide), hal⟩]) ∗ held c a15 f15 ∗ held c a12 f12 ∗ held c a13 f13
      ∗ (iprop(held c a5 (h5.unread x5) ∗ held c a6 (h6.unread x6) ∗ held c a7 (h7.unread x7) ∗ held c a8 (h8.unread x8) ∗ held c a11 (a11.view.writes (Elt F) f11 [⟨Rect.unit (s := S536x1024) ![280, 0] S256x1024.size (by decide), p1⟩, ⟨Rect.unit (s := S536x1024) ![24, 0] S256x1024.size (by decide), p0⟩, ⟨Rect.unit (s := S536x1024) ![0, 0] S24x1024.size (by decide), hal⟩]) ∗ held c a15 (a15.view.writes (Elt F) f15 L15) ∗ held c a12 (a12.view.writes (Elt F) f12 L12) ∗ held c a13 (a13.view.writes (Elt F) f13 L13)) -∗ wp frame (wpE (defs₀ (F := F)) Variants.none c none) E (κ v668 v959 v965 v966) Q))
    ⊢ wp frame (wpE (defs₀ (F := F)) Variants.none c none) E (s4 i a1 h1 a2 h2 a3 h3 a4 h4 a5 h5 a6 h6 a7 h7 a8 h8 a9 h9 a10 h10 a11 h11 a12 h12 a13 h13 a14 h14 a15 h15 a16 h16 a17 h17 v37 v638 κ) Q

set_option maxHeartbeats 4000000 in
/-- The values for which `UpperRun` holds. -/
noncomputable def upper (hal : Vec F S24x1024 .f32) (p0 p1 : Vec F S256x1024 .f32) (v37 : FVec F S1x1024 .f32) (v638 : FVec F S256x1024 .f32) (x5 : Vec F S4x1024 .f32) (x6 : Vec F S1x1024 .f32) (x7 : Vec F S8x128x256 .bf16) (x8 : Vec F S8x1x256 .f32) :
    Σ' (v668 : FVec F S256x1024 .f32) (v959 : FVec F S256x128 .f32) (v965 : FVec F S256x128 .f32) (v966 : FVec F S256x128 .f32) (L15 : List (View.Piece (Elt F) S512x1024 .f32)) (L12 : List (View.Piece (Elt F) S512x1024 .f32)), { L13 : List (View.Piece (Elt F) S512x1024 .f32) // UpperRun c i a1 h1 a2 h2 a3 h3 a4 h4 a5 h5 a6 h6 a7 h7 a8 h8 a9 h9 a10 h10 a11 h11 a12 h12 a13 h13 a14 h14 a15 h15 a16 h16 a17 h17 hal p0 p1 v37 v638 x5 x6 x7 x8 v668 v959 v965 v966 L15 L12 L13 } := by
  refine ⟨?_, ?_, ?_, ?_, ?_, ?_, ?_, fun E κ Q f11 f15 f12 f13 => ?run⟩
  case run =>
    unfold held
    try simp only [k0_part16_eq_skeleton, k0_part17_eq_skeleton, k0_part18_eq_skeleton, k0_part19_eq_skeleton, k0_part20_eq_skeleton, k0_part21_eq_skeleton, k0_part22_eq_skeleton, k0_part23_eq_skeleton]
    iintro ⟨H5, H6, H7, H8, H11, H15, H12, H13, Hk⟩
    sl_exec
    iapply Hk
    isplitl [H5]; · iexact H5
    isplitl [H6]; · iexact H6
    isplitl [H7]; · iexact H7
    isplitl [H8]; · iexact H8
    isplitl [H11]; · iexact H11
    isplitl [H15]; · iexact H15
    isplitl [H12]; · iexact H12
    iexact H13

end Cert.Rec
-- ==== Proof.RecCompose.lean ====
module

public import proofs.«01_k».proof.Proof.RecS5
public import proofs.«01_k».proof.Proof.RecS2
public import proofs.«01_k».proof.Proof.RecS3
public import proofs.«01_k».proof.Proof.RecS4
public import Idealize.ShloMosaic.Lib.Pipeline.ValueKit

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ
variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (x1 : Vec F S8x64x1024 .f32) (x2 : Vec F S1x1024 .f32) (x3 : Vec F S1x1024x2048 .f32) (x4 : Vec F S1x2048 .f32)
  (x5 : Vec F S4x1024 .f32) (x6 : Vec F S1x1024 .f32) (x7 : Vec F S8x128x256 .bf16) (x8 : Vec F S8x1x256 .f32) (x9 : Vec F S1x1024 .f32)
  (wl wr : Vec F S1024x1024 .bf16) (hal : Vec F S24x1024 .f32) (car : Vec F S8x1024 .f32)

/-- The scratch between two grid steps: the first rows of `a11` are the rows handed on, `a16` the state, `a17` the weights; the rest is
    written before it is read. -/
def Carried : sProp 𝕄 :=
  iprop((∃ f, held c a11 (a11.view.writes (Elt F) f [⟨Rect.unit (s := S536x1024) ![0, 0] S24x1024.size (by decide), hal⟩])) ∗ (∃ f, held c a12 f) ∗ (∃ f, held c a13 f) ∗ (∃ f, held c a14 f) ∗ (∃ f, held c a15 f) ∗ (∃ f, held c a16 (a16.view.writes (Elt F) f [⟨Rect.unit (s := S8x1024) ![0, 0] S8x1024.size (by decide), car⟩])) ∗ (∃ f, held c a17 (a17.view.writes (Elt F) f [⟨Rect.unit (s := S1024x2048) ![0, 1024] S1024x1024.size (by decide), wr⟩, ⟨Rect.unit (s := S1024x2048) ![0, 0] S1024x1024.size (by decide), wl⟩])))

/-- The blocks of the nine inputs. -/
def Blocks : sProp 𝕄 := iprop(held c a1 (h1.unread x1) ∗ held c a2 (h2.unread x2) ∗ held c a3 (h3.unread x3) ∗ held c a4 (h4.unread x4) ∗ held c a5 (h5.unread x5) ∗ held c a6 (h6.unread x6) ∗ held c a7 (h7.unread x7) ∗ held c a8 (h8.unread x8) ∗ held c a9 (h9.unread x9))

set_option maxHeartbeats 1000000 in
/-- A grid step from the projections on, from the statements of its stretches: it takes the scratch from one hand-over to the next and
    fills the block of the result. -/
theorem compose {v19 : FVec F S64x64 .bf16} {v21 : FVec F S512x1024 .f32} {v37 : FVec F S1x1024 .f32} {v38 v39 : FVec F S8x1024 .f32}
    {P0 P1 : Vec F S256x1024 .f32} {v638 v668 : FVec F S256x1024 .f32} {v959 v965 v966 : FVec F S256x128 .f32} {hal' : Vec F S24x1024 .f32}
    {v978 v980 car' : Vec F S8x1024 .f32} {La15 Lb15 Lc15 La12 Lb12 La13 Lb13 Lc13 L14 : List (View.Piece (Elt F) S512x1024 .f32)}
    {L10 : List (View.Piece (Elt F) S8x64x1024 .bf16)} {X14 : Vec F S512x1024 .f32}
    (hp : ProjectRun c i a1 h1 a2 h2 a3 h3 a4 h4 a5 h5 a6 h6 a7 h7 a8 h8 a9 h9 a10 h10 a11 h11 a12 h12 a13 h13 a14 h14 a15 h15 a16 h16 a17 h17 hal wl wr v19 v21 v38 v39 x2 x4 P0 La15)
    (hm : MiddleRun c i a1 h1 a2 h2 a3 h3 a4 h4 a5 h5 a6 h6 a7 h7 a8 h8 a9 h9 a10 h10 a11 h11 a12 h12 a13 h13 a14 h14 a15 h15 a16 h16 a17 h17 hal P0 wl wr v19 v21 v37 x2 x4 x5 x6 x7 x8 v638 P1 Lb15 La12 La13)
    (hu : UpperRun c i a1 h1 a2 h2 a3 h3 a4 h4 a5 h5 a6 h6 a7 h7 a8 h8 a9 h9 a10 h10 a11 h11 a12 h12 a13 h13 a14 h14 a15 h15 a16 h16 a17 h17 hal P0 P1 v37 v638 x5 x6 x7 x8 v668 v959 v965 v966 Lc15 Lb12 Lb13)
    (hh : HandOverRun c a11 a13 a16 hal P0 P1 car v668 v959 v965 v966 v978 hal' Lc13)
    (c12 : ∀ y : S512x1024.Idx, ∃ p ∈ Lb12 ++ La12, y ∈ p.1.set)
    (c13 : ∀ y : S512x1024.Idx, ∃ p ∈ Lc13 ++ (Lb13 ++ La13), y ∈ p.1.set)
    (c15 : ∀ y : S512x1024.Idx, ∃ p ∈ Lc15 ++ (Lb15 ++ La15), y ∈ p.1.set)
    (c10 : ∀ y : S8x64x1024.Idx, ∃ p ∈ L10, y ∈ p.1.set)
    (hl : LoopRun c i a1 h1 a2 h2 a3 h3 a4 h4 a5 h5 a6 h6 a7 h7 a8 h8 a9 h9 a10 h10 a11 h11 a12 h12 a13 h13 a14 h14 a15 h15 a16 h16 a17 h17 v19 v668 v959 v965 v966 v978 (View.canon (Lb12 ++ La12)) (View.canon (Lc13 ++ (Lb13 ++ La13))) v980 L14)
    (e14 : ∀ f, a14.view.writes (Elt F) f L14 = h14.unread X14)
    (ho : OutputRun c i a1 h1 a2 h2 a3 h3 a4 h4 a5 h5 a6 h6 a7 h7 a8 h8 a9 h9 a10 h10 a11 h11 a12 h12 a13 h13 a14 h14 a15 h15 a16 h16 a17 h17 v19 v980 X14 (View.canon (Lc15 ++ (Lb15 ++ La15))) car' L10)
    (E : Set ℕ) (Q : PUnit → sProp 𝕄) (f10 : BufTy.Contents (Elt F) a10.view.ty) :
    iprop(Blocks c a1 h1 a2 h2 a3 h3 a4 h4 a5 h5 a6 h6 a7 h7 a8 h8 a9 h9 x1 x2 x3 x4 x5 x6 x7 x8 x9 ∗ held c a10 f10 ∗ Carried c a11 a12 a13 a14 a15 a16 a17 wl wr hal car
      ∗ (iprop(Blocks c a1 h1 a2 h2 a3 h3 a4 h4 a5 h5 a6 h6 a7 h7 a8 h8 a9 h9 x1 x2 x3 x4 x5 x6 x7 x8 x9 ∗ held c a10 (h10.unread (View.canon L10)) ∗ Carried c a11 a12 a13 a14 a15 a16 a17 wl wr hal' car') -∗ Q ⟨⟩))
    ⊢ wp frame (wpE (defs₀ (F := F)) Variants.none c none) E (s1.tail i a1 h1 a2 h2 a3 h3 a4 h4 a5 h5 a6 h6 a7 h7 a8 h8 a9 h9 a10 h10 a11 h11 a12 h12 a13 h13 a14 h14 a15 h15 a16 h16 a17 h17 v19 v21 v37 v38 v39) Q := by
  unfold Blocks Carried
  iintro ⟨⟨H1, H2, H3, H4, H5, H6, H7, H8, H9⟩, H10, ⟨⟨%f11, H11⟩, ⟨%f12, H12⟩, ⟨%f13, H13⟩, ⟨%f14, H14⟩, ⟨%f15, H15⟩, ⟨%f16, H16⟩, ⟨%f17, H17⟩⟩, Hk⟩
  rw [s2.eq]
  iapply (hp E _ Q _ _ _)
  isplitl [H2]; · iexact H2
  isplitl [H4]; · iexact H4
  isplitl [H17]; · iexact H17
  isplitl [H11]; · iexact H11
  isplitl [H15]; · iexact H15
  iintro ⟨H2, H4, H17, H11, H15⟩
  rw [s3.eq]
  iapply (hm E _ Q _ _ _ _ _)
  isplitl [H2]; · iexact H2
  isplitl [H4]; · iexact H4
  isplitl [H5]; · iexact H5
  isplitl [H6]; · iexact H6
  isplitl [H7]; · iexact H7
  isplitl [H8]; · iexact H8
  isplitl [H17]; · iexact H17
  isplitl [H11]; · iexact H11
  isplitl [H15]; · iexact H15
  isplitl [H12]; · iexact H12
  isplitl [H13]; · iexact H13
  iintro ⟨H2, H4, H5, H6, H7, H8, H17, H11, H15, H12, H13⟩
  rw [s4.eq]
  iapply (hu E _ Q _ _ _ _)
  isplitl [H5]; · iexact H5
  isplitl [H6]; · iexact H6
  isplitl [H7]; · iexact H7
  isplitl [H8]; · iexact H8
  isplitl [H11]; · iexact H11
  isplitl [H15]; · iexact H15
  isplitl [H12]; · iexact H12
  isplitl [H13]; · iexact H13
  iintro ⟨H5, H6, H7, H8, H11, H15, H12, H13⟩
  rw [s5.eq]
  iapply (hh E _ Q _ _ _)
  isplitl [H11]; · iexact H11
  isplitl [H13]; · iexact H13
  isplitl [H16]; · iexact H16
  iintro ⟨H11, H13, H16⟩
  simp only [← View.writes_append]
  have e12 := h12.eq_unread (View.read_writes_eq_canon a12.view f12 _ c12)
  have e13 := h13.eq_unread (View.read_writes_eq_canon a13.view f13 _ c13)
  have e15 := h15.eq_unread (View.read_writes_eq_canon a15.view f15 _ c15)
  rw [e12, e13, e15]
  rw [s6.eq]
  iapply (hl E _ Q _)
  isplitl [H12]; · iexact H12
  isplitl [H13]; · iexact H13
  isplitl [H14]; · iexact H14
  iintro ⟨H12, H13, H14⟩
  rw [e14]
  rw [s7.eq]
  iapply (ho E _ Q _ _)
  isplitl [H14]; · iexact H14
  isplitl [H15]; · iexact H15
  isplitl [H16]; · iexact H16
  isplitl [H10]; · iexact H10
  iintro ⟨H14, H15, H16, H10⟩
  have e10 := h10.eq_unread (View.read_writes_eq_canon a10.view f10 _ c10)
  rw [e10, ← View.writes_append]
  unfold s7.tail
  sl_step
  iapply Hk
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11]
  · iexists _
    rw [show ∀ p (L : List (View.Piece (Elt F) S536x1024 .f32)), a11.view.writes (Elt F) f11 (p :: L) = a11.view.writes (Elt F) (a11.view.writes (Elt F) f11 L) [p] from
      fun p L => by rw [← View.writes_append]; rfl]
    iexact H11
  isplitl [H12]; · iexists _; iexact H12
  isplitl [H13]; · iexists _; iexact H13
  isplitl [H14]; · iexists _; iexact H14
  isplitl [H15]; · iexists _; iexact H15
  isplitl [H16]
  · iexists _; iexact H16
  iexists _; iexact H17

end Cert.Rec
-- ==== Proof.RecS1.lean ====
module

public import proofs.«01_k».proof.Proof.RecBase

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

set_option maxHeartbeats 4000000 in
/-- The first grid step prepares the scratch: no rows carried, no state, the projection weights in bf16. -/
theorem first (hc : Scalar.cmpi .ne (Scalar.extui (Scalar.cmpi .eq (BitVec.ofNat 32 (i 0).val) 0#32) : BitVec 32) 0#32 = 1#1) (x1 : Vec F S8x64x1024 .f32) (x3 : Vec F S1x1024x2048 .f32) (x9 : Vec F S1x1024 .f32) :
    ∀ (E : Set ℕ) (κ : FVec F S64x64 .bf16 → FVec F S512x1024 .f32 → FVec F S1x1024 .f32 → FVec F S8x1024 .f32 → FVec F S8x1024 .f32 → Prog (TpuEff nD τ sig (Elt F) Λ₀ .tc) PUnit) (Q : PUnit → sProp 𝕄) (f11 : BufTy.Contents (Elt F) a11.view.ty) (f16 : BufTy.Contents (Elt F) a16.view.ty) (f17 : BufTy.Contents (Elt F) a17.view.ty),
    iprop(held c a1 (h1.unread x1) ∗ held c a3 (h3.unread x3) ∗ held c a9 (h9.unread x9) ∗ held c a11 f11 ∗ held c a16 f16 ∗ held c a17 f17
      ∗ (iprop(held c a1 (h1.unread x1) ∗ held c a3 (h3.unread x3) ∗ held c a9 (h9.unread x9) ∗ held c a11 (a11.view.writes (Elt F) f11 [⟨Rect.unit (s := S536x1024) ![0, 0] S24x1024.size (by decide), k0_pay2⟩]) ∗ held c a16 (a16.view.writes (Elt F) f16 [⟨Rect.unit (s := S8x1024) ![0, 0] S8x1024.size (by decide), k0_pay3⟩]) ∗ held c a17 (a17.view.writes (Elt F) f17 [⟨Rect.unit (s := S1024x2048) ![0, 1024] S1024x1024.size (by decide), k0_pay5 (View.ld x3 (Rect.unit (s := S1x1024x2048) ![0, 0, 1024] S1x1024x1024.size inb_S1x1024x2048_S1x1024x1024_0_0_1024))⟩, ⟨Rect.unit (s := S1024x2048) ![0, 0] S1024x1024.size (by decide), k0_pay4 (View.ld x3 (Rect.unit (s := S1x1024x2048) ![0, 0, 0] S1x1024x1024.size inb_S1x1024x2048_S1x1024x1024_0_0_0))⟩])) -∗ wp frame (wpE (defs₀ (F := F)) Variants.none c none) E (κ k0_pay6 (k0_pay7 (View.ld x1 (Rect.unit (s := S8x64x1024) ![0, 0, 0] S8x64x1024.size inb_S8x64x1024_S8x64x1024_0_0_0))) (k0_pay8 (View.ld x9 (Rect.unit (s := S1x1024) ![0, 0] S1x1024.size inb_S1x1024_S1x1024_0_0))) (k0_pay9 (View.ld x1 (Rect.unit (s := S8x64x1024) ![0, 0, 0] S8x64x1024.size inb_S8x64x1024_S8x64x1024_0_0_0))) (k0_pay10 (View.ld x1 (Rect.unit (s := S8x64x1024) ![0, 0, 0] S8x64x1024.size inb_S8x64x1024_S8x64x1024_0_0_0)))) Q))
    ⊢ wp frame (wpE (defs₀ (F := F)) Variants.none c none) E (s1 i a1 h1 a2 h2 a3 h3 a4 h4 a5 h5 a6 h6 a7 h7 a8 h8 a9 h9 a10 h10 a11 h11 a12 h12 a13 h13 a14 h14 a15 h15 a16 h16 a17 h17 κ) Q := by
  refine fun E κ Q f11 f16 f17 => ?run
  case run =>
    obtain ⟨g1, rfl⟩ : ∃ g, x1 = a1.view.read (Elt F) g := ⟨_, (h1.read_unread x1).symm⟩
    obtain ⟨g3, rfl⟩ : ∃ g, x3 = a3.view.read (Elt F) g := ⟨_, (h3.read_unread x3).symm⟩
    obtain ⟨g9, rfl⟩ : ∃ g, x9 = a9.view.read (Elt F) g := ⟨_, (h9.read_unread x9).symm⟩
    simp only [Memref.IsWhole.unread_read]
    unfold held
    try simp only [k0_part1_eq_skeleton]
    iintro ⟨H1, H3, H9, H11, H16, H17, Hk⟩
    sl_exec (disch := first | sl_exact hc)
    iapply Hk
    isplitl [H1]; · iexact H1
    isplitl [H3]; · iexact H3
    isplitl [H9]; · iexact H9
    isplitl [H11]; · iexact H11
    isplitl [H16]; · iexact H16
    iexact H17

set_option maxHeartbeats 4000000 in
/-- A later grid step finds the scratch as the step before left it. -/
theorem later (hc : ¬ Scalar.cmpi .ne (Scalar.extui (Scalar.cmpi .eq (BitVec.ofNat 32 (i 0).val) 0#32) : BitVec 32) 0#32 = 1#1) (x1 : Vec F S8x64x1024 .f32) (x9 : Vec F S1x1024 .f32) :
    ∀ (E : Set ℕ) (κ : FVec F S64x64 .bf16 → FVec F S512x1024 .f32 → FVec F S1x1024 .f32 → FVec F S8x1024 .f32 → FVec F S8x1024 .f32 → Prog (TpuEff nD τ sig (Elt F) Λ₀ .tc) PUnit) (Q : PUnit → sProp 𝕄) ,
    iprop(held c a1 (h1.unread x1) ∗ held c a9 (h9.unread x9)
      ∗ (iprop(held c a1 (h1.unread x1) ∗ held c a9 (h9.unread x9)) -∗ wp frame (wpE (defs₀ (F := F)) Variants.none c none) E (κ k0_pay6 (k0_pay7 (View.ld x1 (Rect.unit (s := S8x64x1024) ![0, 0, 0] S8x64x1024.size inb_S8x64x1024_S8x64x1024_0_0_0))) (k0_pay8 (View.ld x9 (Rect.unit (s := S1x1024) ![0, 0] S1x1024.size inb_S1x1024_S1x1024_0_0))) (k0_pay9 (View.ld x1 (Rect.unit (s := S8x64x1024) ![0, 0, 0] S8x64x1024.size inb_S8x64x1024_S8x64x1024_0_0_0))) (k0_pay10 (View.ld x1 (Rect.unit (s := S8x64x1024) ![0, 0, 0] S8x64x1024.size inb_S8x64x1024_S8x64x1024_0_0_0)))) Q))
    ⊢ wp frame (wpE (defs₀ (F := F)) Variants.none c none) E (s1 i a1 h1 a2 h2 a3 h3 a4 h4 a5 h5 a6 h6 a7 h7 a8 h8 a9 h9 a10 h10 a11 h11 a12 h12 a13 h13 a14 h14 a15 h15 a16 h16 a17 h17 κ) Q := by
  refine fun E κ Q  => ?run
  case run =>
    obtain ⟨g1, rfl⟩ : ∃ g, x1 = a1.view.read (Elt F) g := ⟨_, (h1.read_unread x1).symm⟩
    obtain ⟨g9, rfl⟩ : ∃ g, x9 = a9.view.read (Elt F) g := ⟨_, (h9.read_unread x9).symm⟩
    simp only [Memref.IsWhole.unread_read]
    unfold held
    try simp only [k0_part1_eq_skeleton]
    iintro ⟨H1, H9, Hk⟩
    sl_exec (disch := first | sl_exact hc)
    iapply Hk
    isplitl [H1]; · iexact H1
    iexact H9

end Cert.Rec
-- ==== Proof.RecBody.lean ====
module

public import proofs.«01_k».proof.Proof.RecLoop
public import proofs.«01_k».proof.Proof.RecCompose
public import proofs.«01_k».proof.Proof.RecS1
public import proofs.«01_k».proof.Proof.RecS2
public import proofs.«01_k».proof.Proof.RecS3
public import proofs.«01_k».proof.Proof.RecS4

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The projection weights in bf16: the columns of the recurrence branch, -/
def wLo (x3 : Vec F S1x1024x2048 .f32) : Vec F S1024x1024 .bf16 := k0_pay4 (View.ld x3 (Rect.unit (s := S1x1024x2048) ![0, 0, 0] S1x1024x1024.size inb_S1x1024x2048_S1x1024x1024_0_0_0))
/-- and those of the gate branch. -/
def wHi (x3 : Vec F S1x1024x2048 .f32) : Vec F S1024x1024 .bf16 := k0_pay5 (View.ld x3 (Rect.unit (s := S1x1024x2048) ![0, 0, 1024] S1x1024x1024.size inb_S1x1024x2048_S1x1024x1024_0_0_1024))

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (x1 : Vec F S8x64x1024 .f32) (x2 : Vec F S1x1024 .f32) (x3 : Vec F S1x1024x2048 .f32) (x4 : Vec F S1x2048 .f32)
  (x5 : Vec F S4x1024 .f32) (x6 : Vec F S1x1024 .f32) (x7 : Vec F S8x128x256 .bf16) (x8 : Vec F S8x1x256 .f32) (x9 : Vec F S1x1024 .f32)
  (hal : Vec F S24x1024 .f32) (car : Vec F S8x1024 .f32)

/-! What one grid step computes, stretch by stretch, from the blocks `x1` … `x9`, the rows `hal` carried from the step before and the
state `car`. -/

/-- The first half projected. -/
abbrev pj := project (F := F) c i a1 h1 a2 h2 a3 h3 a4 h4 a5 h5 a6 h6 a7 h7 a8 h8 a9 h9 a10 h10 a11 h11 a12 h12 a13 h13 a14 h14 a15 h15 a16 h16 a17 h17 hal (wLo x3) (wHi x3) k0_pay6 (k0_pay7 (View.ld x1 (Rect.unit (s := S8x64x1024) ![0, 0, 0] S8x64x1024.size inb_S8x64x1024_S8x64x1024_0_0_0))) (k0_pay9 (View.ld x1 (Rect.unit (s := S8x64x1024) ![0, 0, 0] S8x64x1024.size inb_S8x64x1024_S8x64x1024_0_0_0))) (k0_pay10 (View.ld x1 (Rect.unit (s := S8x64x1024) ![0, 0, 0] S8x64x1024.size inb_S8x64x1024_S8x64x1024_0_0_0))) x2 x4
/-- The first half gated, the second projected. -/
abbrev md := middle (F := F) c i a1 h1 a2 h2 a3 h3 a4 h4 a5 h5 a6 h6 a7 h7 a8 h8 a9 h9 a10 h10 a11 h11 a12 h12 a13 h13 a14 h14 a15 h15 a16 h16 a17 h17 hal (pj c i a1 h1 a2 h2 a3 h3 a4 h4 a5 h5 a6 h6 a7 h7 a8 h8 a9 h9 a10 h10 a11 h11 a12 h12 a13 h13 a14 h14 a15 h15 a16 h16 a17 h17 x1 x2 x3 x4 hal).1 (wLo x3) (wHi x3) k0_pay6 (k0_pay7 (View.ld x1 (Rect.unit (s := S8x64x1024) ![0, 0, 0] S8x64x1024.size inb_S8x64x1024_S8x64x1024_0_0_0))) (k0_pay8 (View.ld x9 (Rect.unit (s := S1x1024) ![0, 0] S1x1024.size inb_S1x1024_S1x1024_0_0))) x2 x4 x5 x6 x7 x8
/-- The second half gated. -/
abbrev up := upper (F := F) c i a1 h1 a2 h2 a3 h3 a4 h4 a5 h5 a6 h6 a7 h7 a8 h8 a9 h9 a10 h10 a11 h11 a12 h12 a13 h13 a14 h14 a15 h15 a16 h16 a17 h17 hal (pj c i a1 h1 a2 h2 a3 h3 a4 h4 a5 h5 a6 h6 a7 h7 a8 h8 a9 h9 a10 h10 a11 h11 a12 h12 a13 h13 a14 h14 a15 h15 a16 h16 a17 h17 x1 x2 x3 x4 hal).1 (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (k0_pay8 (View.ld x9 (Rect.unit (s := S1x1024) ![0, 0] S1x1024.size inb_S1x1024_S1x1024_0_0))) (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 x5 x6 x7 x8
/-- The last inputs of the recurrence and the rows handed on. -/
abbrev hv := handOver (F := F) c a11 a13 a16 hal (pj c i a1 h1 a2 h2 a3 h3 a4 h4 a5 h5 a6 h6 a7 h7 a8 h8 a9 h9 a10 h10 a11 h11 a12 h12 a13 h13 a14 h14 a15 h15 a16 h16 a17 h17 x1 x2 x3 x4 hal).1 (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 car (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1
/-- The factors of the recurrence, row `8 * t + b` for step `t` of sequence `b`; -/
def facs : Vec F S512x1024 .f32 := View.canon ((up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.1 ++ (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1)
/-- its inputs; -/
def inps : Vec F S512x1024 .f32 := View.canon ((hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.2.1 ++ ((up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.2.1 ++ (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1))
/-- the gate branch. -/
def gats : Vec F S512x1024 .f32 := View.canon ((up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1 ++ ((md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 ++ (pj c i a1 h1 a2 h2 a3 h3 a4 h4 a5 h5 a6 h6 a7 h7 a8 h8 a9 h9 a10 h10 a11 h11 a12 h12 a13 h13 a14 h14 a15 h15 a16 h16 a17 h17 x1 x2 x3 x4 hal).2.1))
/-- The state of every step. -/
def hids : Vec F S512x1024 .f32 := states (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1
/-- The stores of the last stretch. -/
abbrev ot := output (F := F) c i a1 h1 a2 h2 a3 h3 a4 h4 a5 h5 a6 h6 a7 h7 a8 h8 a9 h9 a10 h10 a11 h11 a12 h12 a13 h13 a14 h14 a15 h15 a16 h16 a17 h17 k0_pay6 (hid (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 64) (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal)
/-- The rows handed to the next step, -/
def halN : Vec F S24x1024 .f32 := (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.1
/-- the state handed to it, -/
def carN : Vec F S8x1024 .f32 := (ot c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1
/-- and the block of the result. -/
def outN : Vec F S8x64x1024 .bf16 := View.canon (ot c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.1

theorem cover_facs : ∀ y : S512x1024.Idx, ∃ p ∈ (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.1 ++ (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1, y ∈ p.1.set :=
  View.cover_of_tiledL _ ![256, 128] (by sl_kernel_rfl)

theorem cover_inps : ∀ y : S512x1024.Idx, ∃ p ∈ (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.2.1 ++ ((up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.2.1 ++ (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1), y ∈ p.1.set :=
  View.cover_of_tiledL _ ![256, 128] (by sl_kernel_rfl)

theorem cover_gats : ∀ y : S512x1024.Idx, ∃ p ∈ (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1 ++ ((md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 ++ (pj c i a1 h1 a2 h2 a3 h3 a4 h4 a5 h5 a6 h6 a7 h7 a8 h8 a9 h9 a10 h10 a11 h11 a12 h12 a13 h13 a14 h14 a15 h15 a16 h16 a17 h17 x1 x2 x3 x4 hal).2.1), y ∈ p.1.set :=
  View.cover_of_tiledL _ ![256, 1024] (by sl_kernel_rfl)

theorem cover_out : ∀ y : S8x64x1024.Idx, ∃ p ∈ (ot c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.1, y ∈ p.1.set :=
  View.cover_of_tiledL _ ![1, 64, 1024] (by sl_kernel_rfl)

theorem loopRun : LoopRun c i a1 h1 a2 h2 a3 h3 a4 h4 a5 h5 a6 h6 a7 h7 a8 h8 a9 h9 a10 h10 a11 h11 a12 h12 a13 h13 a14 h14 a15 h15 a16 h16 a17 h17 k0_pay6 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hid (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 64) (loop (F := F) c i a1 h1 a2 h2 a3 h3 a4 h4 a5 h5 a6 h6 a7 h7 a8 h8 a9 h9 a10 h10 a11 h11 a12 h12 a13 h13 a14 h14 a15 h15 a16 h16 a17 h17 k0_pay6 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)).2.1 := by
  exact cast (congrArg (fun v => LoopRun c i a1 h1 a2 h2 a3 h3 a4 h4 a5 h5 a6 h6 a7 h7 a8 h8 a9 h9 a10 h10 a11 h11 a12 h12 a13 h13 a14 h14 a15 h15 a16 h16 a17 h17 k0_pay6 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) v (loop (F := F) c i a1 h1 a2 h2 a3 h3 a4 h4 a5 h5 a6 h6 a7 h7 a8 h8 a9 h9 a10 h10 a11 h11 a12 h12 a13 h13 a14 h14 a15 h15 a16 h16 a17 h17 k0_pay6 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)).2.1)
    (loop_fst _ _ _ _ _ _ _ _ _ _ _ _ _ _ _ _ _ _ _ _ _ _ _ _ _ _ _ _ _ _ _ _ _ _ _ _ _ _ _ _ _ _ _ _)) (loop (F := F) c i a1 h1 a2 h2 a3 h3 a4 h4 a5 h5 a6 h6 a7 h7 a8 h8 a9 h9 a10 h10 a11 h11 a12 h12 a13 h13 a14 h14 a15 h15 a16 h16 a17 h17 k0_pay6 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)).2.2

/-- A grid step from the projections on takes the scratch from one hand-over to the next and fills the block of the result. -/
theorem rest (E : Set ℕ) (Q : PUnit → sProp 𝕄) (f10 : BufTy.Contents (Elt F) a10.view.ty) :
    iprop(Blocks c a1 h1 a2 h2 a3 h3 a4 h4 a5 h5 a6 h6 a7 h7 a8 h8 a9 h9 x1 x2 x3 x4 x5 x6 x7 x8 x9 ∗ held c a10 f10 ∗ Carried c a11 a12 a13 a14 a15 a16 a17 (wLo x3) (wHi x3) hal car
      ∗ (iprop(Blocks c a1 h1 a2 h2 a3 h3 a4 h4 a5 h5 a6 h6 a7 h7 a8 h8 a9 h9 x1 x2 x3 x4 x5 x6 x7 x8 x9 ∗ held c a10 (h10.unread (outN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)) ∗ Carried c a11 a12 a13 a14 a15 a16 a17 (wLo x3) (wHi x3) (halN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (carN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)) -∗ Q ⟨⟩))
    ⊢ wp frame (wpE (defs₀ (F := F)) Variants.none c none) E (s1.tail i a1 h1 a2 h2 a3 h3 a4 h4 a5 h5 a6 h6 a7 h7 a8 h8 a9 h9 a10 h10 a11 h11 a12 h12 a13 h13 a14 h14 a15 h15 a16 h16 a17 h17 k0_pay6 (k0_pay7 (View.ld x1 (Rect.unit (s := S8x64x1024) ![0, 0, 0] S8x64x1024.size inb_S8x64x1024_S8x64x1024_0_0_0))) (k0_pay8 (View.ld x9 (Rect.unit (s := S1x1024) ![0, 0] S1x1024.size inb_S1x1024_S1x1024_0_0))) (k0_pay9 (View.ld x1 (Rect.unit (s := S8x64x1024) ![0, 0, 0] S8x64x1024.size inb_S8x64x1024_S8x64x1024_0_0_0))) (k0_pay10 (View.ld x1 (Rect.unit (s := S8x64x1024) ![0, 0, 0] S8x64x1024.size inb_S8x64x1024_S8x64x1024_0_0_0)))) Q :=
  compose c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 (wLo x3) (wHi x3) hal car (pj c i a1 h1 a2 h2 a3 h3 a4 h4 a5 h5 a6 h6 a7 h7 a8 h8 a9 h9 a10 h10 a11 h11 a12 h12 a13 h13 a14 h14 a15 h15 a16 h16 a17 h17 x1 x2 x3 x4 hal).2.2 (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2 (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.2.2 (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.2.2
    (cover_facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (cover_inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (cover_gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (cover_out c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)
    (loopRun c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (fun f => loop_snd _ _ _ _ _ _ _ _ _ _ _ _ _ _ _ _ _ _ _ _ _ _ _ _ _ _ _ _ _ _ _ _ _ _ _ _ _ _ _ _ _ _ _ _ f)
    (ot c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.2 E Q f10

/-- A later grid step. -/
theorem body_later (hc : ¬ Scalar.cmpi .ne (Scalar.extui (Scalar.cmpi .eq (BitVec.ofNat 32 (i 0).val) 0#32) : BitVec 32) 0#32 = 1#1) (E : Set ℕ) (Q : PUnit → sProp 𝕄) (f10 : BufTy.Contents (Elt F) a10.view.ty) :
    iprop(Blocks c a1 h1 a2 h2 a3 h3 a4 h4 a5 h5 a6 h6 a7 h7 a8 h8 a9 h9 x1 x2 x3 x4 x5 x6 x7 x8 x9 ∗ held c a10 f10 ∗ Carried c a11 a12 a13 a14 a15 a16 a17 (wLo x3) (wHi x3) hal car
      ∗ (iprop(Blocks c a1 h1 a2 h2 a3 h3 a4 h4 a5 h5 a6 h6 a7 h7 a8 h8 a9 h9 x1 x2 x3 x4 x5 x6 x7 x8 x9 ∗ held c a10 (h10.unread (outN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)) ∗ Carried c a11 a12 a13 a14 a15 a16 a17 (wLo x3) (wHi x3) (halN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (carN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car)) -∗ Q ⟨⟩))
    ⊢ wp frame (wpE (defs₀ (F := F)) Variants.none c none) E (cc0_rec_front i a1 h1 a2 h2 a3 h3 a4 h4 a5 h5 a6 h6 a7 h7 a8 h8 a9 h9 a10 h10 a11 h11 a12 h12 a13 h13 a14 h14 a15 h15 a16 h16 a17 h17) Q := by
  rw [cc0_rec_front_eq_skeleton, opened.eq, s1.eq]
  unfold Blocks
  iintro ⟨⟨H1, H2, H3, H4, H5, H6, H7, H8, H9⟩, H10, HC, Hk⟩
  iapply (later c i a1 h1 a2 h2 a3 h3 a4 h4 a5 h5 a6 h6 a7 h7 a8 h8 a9 h9 a10 h10 a11 h11 a12 h12 a13 h13 a14 h14 a15 h15 a16 h16 a17 h17 hc x1 x9 E _ Q)
  isplitl [H1]; · iexact H1
  isplitl [H9]; · iexact H9
  iintro ⟨H1, H9⟩
  iapply (rest c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car E Q f10)
  isplitl [H1 H2 H3 H4 H5 H6 H7 H8 H9]
  · unfold Blocks
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HC]; · iexact HC
  unfold Blocks
  iexact Hk

/-- The first grid step, from a scratch holding anything: no rows and no state carried in. -/
theorem body_first (hc : Scalar.cmpi .ne (Scalar.extui (Scalar.cmpi .eq (BitVec.ofNat 32 (i 0).val) 0#32) : BitVec 32) 0#32 = 1#1) (E : Set ℕ) (Q : PUnit → sProp 𝕄) (f10 : BufTy.Contents (Elt F) a10.view.ty) :
    iprop(Blocks c a1 h1 a2 h2 a3 h3 a4 h4 a5 h5 a6 h6 a7 h7 a8 h8 a9 h9 x1 x2 x3 x4 x5 x6 x7 x8 x9 ∗ held c a10 f10 ∗ (∃ f, held c a11 f) ∗ (∃ f, held c a12 f) ∗ (∃ f, held c a13 f) ∗ (∃ f, held c a14 f) ∗ (∃ f, held c a15 f) ∗ (∃ f, held c a16 f) ∗ (∃ f, held c a17 f)
      ∗ (iprop(Blocks c a1 h1 a2 h2 a3 h3 a4 h4 a5 h5 a6 h6 a7 h7 a8 h8 a9 h9 x1 x2 x3 x4 x5 x6 x7 x8 x9 ∗ held c a10 (h10.unread (outN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 k0_pay2 k0_pay3)) ∗ Carried c a11 a12 a13 a14 a15 a16 a17 (wLo x3) (wHi x3) (halN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 k0_pay2 k0_pay3) (carN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 k0_pay2 k0_pay3)) -∗ Q ⟨⟩))
    ⊢ wp frame (wpE (defs₀ (F := F)) Variants.none c none) E (cc0_rec_front i a1 h1 a2 h2 a3 h3 a4 h4 a5 h5 a6 h6 a7 h7 a8 h8 a9 h9 a10 h10 a11 h11 a12 h12 a13 h13 a14 h14 a15 h15 a16 h16 a17 h17) Q := by
  rw [cc0_rec_front_eq_skeleton, opened.eq, s1.eq]
  unfold Blocks
  iintro ⟨⟨H1, H2, H3, H4, H5, H6, H7, H8, H9⟩, H10, ⟨%f11, H11⟩, ⟨%f12, H12⟩, ⟨%f13, H13⟩, ⟨%f14, H14⟩, ⟨%f15, H15⟩, ⟨%f16, H16⟩, ⟨%f17, H17⟩, Hk⟩
  iapply (first c i a1 h1 a2 h2 a3 h3 a4 h4 a5 h5 a6 h6 a7 h7 a8 h8 a9 h9 a10 h10 a11 h11 a12 h12 a13 h13 a14 h14 a15 h15 a16 h16 a17 h17 hc x1 x3 x9 E _ Q _ _ _)
  isplitl [H1]; · iexact H1
  isplitl [H3]; · iexact H3
  isplitl [H9]; · iexact H9
  isplitl [H11]; · iexact H11
  isplitl [H16]; · iexact H16
  isplitl [H17]; · iexact H17
  iintro ⟨H1, H3, H9, H11, H16, H17⟩
  iapply (rest c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 k0_pay2 k0_pay3 E Q f10)
  isplitl [H1 H2 H3 H4 H5 H6 H7 H8 H9]
  · unfold Blocks
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [H11 H12 H13 H14 H15 H16 H17]
  · unfold Carried
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  unfold Blocks
  iexact Hk

end Cert.Rec
-- ==== Proof.RecFrame.lean ====
module

public import proofs.«01_k».proof.Proof.RecBody
public import Idealize.ShloMosaic.Lib.Claim

@[expose] public section

set_option maxRecDepth 16384

noncomputable section

namespace Cert.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What one grid step computes from its blocks and what it is handed -/

/-- The rows step `t` hands on, from the rows `hal` and the state `car` it is handed; -/
def halAt (c : Dev nD) (t : Fin cfg0.N) (hal : Vec F S24x1024 .f32) (car : Vec F S8x1024 .f32) : Vec F S24x1024 .f32 :=
  halN c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) hal car

/-- the state it hands on; -/
def carAt (c : Dev nD) (t : Fin cfg0.N) (hal : Vec F S24x1024 .f32) (car : Vec F S8x1024 .f32) : Vec F S8x1024 .f32 :=
  carN c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) hal car

/-- the block of the result it writes. -/
def outAt (c : Dev nD) (t : Fin cfg0.N) (hal : Vec F S24x1024 .f32) (car : Vec F S8x1024 .f32) : Vec F S8x64x1024 .bf16 :=
  outN c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) hal car

/-- The rows and the state handed to step `n`: zero to the first. -/
def carriedAt (c : Dev nD) : (n : ℕ) → n ≤ cfg0.N → Vec F S24x1024 .f32 × Vec F S8x1024 .f32
  | 0, _ => (k0_pay2, k0_pay3)
  | n + 1, hn => (halAt m c ⟨n, hn⟩ (carriedAt c n (Nat.le_of_lt hn)).1 (carriedAt c n (Nat.le_of_lt hn)).2,
      carAt m c ⟨n, hn⟩ (carriedAt c n (Nat.le_of_lt hn)).1 (carriedAt c n (Nat.le_of_lt hn)).2)

theorem carriedAt_succ (c : Dev nD) (t : Fin cfg0.N) : carriedAt m c (t.val + 1) t.isLt
    = (halAt m c t (carriedAt m c t.val (Nat.le_of_lt t.isLt)).1 (carriedAt m c t.val (Nat.le_of_lt t.isLt)).2,
      carAt m c t (carriedAt m c t.val (Nat.le_of_lt t.isLt)).1 (carriedAt m c t.val (Nat.le_of_lt t.isLt)).2) := by
  rw [carriedAt]

/-- The block of the result that step `t` writes. -/
def result (c : Dev nD) (t : Fin cfg0.N) : Vec F S8x64x1024 .bf16 :=
  outAt m c t (carriedAt m c t.val (Nat.le_of_lt t.isLt)).1 (carriedAt m c t.val (Nat.le_of_lt t.isLt)).2

/-! ## The invariant of the grid -/

/-- Between steps the scratch holds what the last one handed on and the weights in the matrix unit's format. -/
def Inv (c : Dev nD) : (n : ℕ) → n ≤ cfg0.N → sProp 𝕄
  | 0, _ => Pipeline.ΦA spec0 c
  | n + 1, hn => iprop(Carried c (Memref.whole cc0_scratch0) (Memref.whole cc0_scratch1) (Memref.whole cc0_scratch2) (Memref.whole cc0_scratch3) (Memref.whole cc0_scratch4) (Memref.whole cc0_scratch5) (Memref.whole cc0_scratch6) (wLo (iblk m c 2 ⟨n, hn⟩)) (wHi (iblk m c 2 ⟨n, hn⟩)) (carriedAt m c (n + 1) hn).1 (carriedAt m c (n + 1) hn).2
      ∗ (∃ r, prngReg c r))

/-- Every step is handed the same block of the weights. -/
theorem weights_const (c : Dev nD) (t t' : Fin cfg0.N) : (iblk m c 2 t : Vec F S1x1024x2048 .f32) = iblk m c 2 t' := rfl

/-- Before a later step. -/
theorem Inv_pos (c : Dev nD) (t : Fin cfg0.N) (hz : t.val ≠ 0) :
    Inv m c t.val (Nat.le_of_lt t.isLt) = iprop(Carried c (Memref.whole cc0_scratch0) (Memref.whole cc0_scratch1) (Memref.whole cc0_scratch2) (Memref.whole cc0_scratch3) (Memref.whole cc0_scratch4) (Memref.whole cc0_scratch5) (Memref.whole cc0_scratch6) (wLo (iblk m c 2 t)) (wHi (iblk m c 2 t)) (carriedAt m c t.val (Nat.le_of_lt t.isLt)).1 (carriedAt m c t.val (Nat.le_of_lt t.isLt)).2
      ∗ (∃ r, prngReg c r)) := by
  obtain ⟨n, hn⟩ := t
  cases n with
  | zero => exact absurd rfl hz
  | succ n => rfl

/-- After a step. -/
theorem Inv_succ (c : Dev nD) (t : Fin cfg0.N) :
    Inv m c (t.val + 1) t.isLt = iprop(Carried c (Memref.whole cc0_scratch0) (Memref.whole cc0_scratch1) (Memref.whole cc0_scratch2) (Memref.whole cc0_scratch3) (Memref.whole cc0_scratch4) (Memref.whole cc0_scratch5) (Memref.whole cc0_scratch6) (wLo (iblk m c 2 t)) (wHi (iblk m c 2 t)) (halAt m c t (carriedAt m c t.val (Nat.le_of_lt t.isLt)).1 (carriedAt m c t.val (Nat.le_of_lt t.isLt)).2) (carAt m c t (carriedAt m c t.val (Nat.le_of_lt t.isLt)).1 (carriedAt m c t.val (Nat.le_of_lt t.isLt)).2)
      ∗ (∃ r, prngReg c r)) := by
  rw [show Inv m c (t.val + 1) t.isLt = iprop(Carried c (Memref.whole cc0_scratch0) (Memref.whole cc0_scratch1) (Memref.whole cc0_scratch2) (Memref.whole cc0_scratch3) (Memref.whole cc0_scratch4) (Memref.whole cc0_scratch5) (Memref.whole cc0_scratch6) (wLo (iblk m c 2 t)) (wHi (iblk m c 2 t)) (carriedAt m c (t.val + 1) t.isLt).1 (carriedAt m c (t.val + 1) t.isLt).2
      ∗ (∃ r, prngReg c r)) from rfl, carriedAt_succ]

/-- Before the first step. -/
theorem Inv_zero (c : Dev nD) (n : ℕ) (h : n ≤ cfg0.N) (hz : n = 0) : Inv m c n h = Pipeline.ΦA spec0 c := by
  subst hz; rfl

/-- The launch's scratch, each buffer at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- A buffer owned at some contents is held at some. -/
theorem held_of_owns (c : Dev nD) {s : Shape} {e : EltTy} (a : Memref sig .tc .vmem s e) :
    iprop(∃ d, owns (c : Thread nD τ) a fullShare d) ⊢ (iprop(∃ f, held c a f) : sProp 𝕄) := by
  unfold owns
  iintro ⟨%d, ⟨%f, %hf, H⟩⟩
  iexists f; iexact H

/-- And back. -/
theorem owns_of_held (c : Dev nD) {s : Shape} {e : EltTy} (a : Memref sig .tc .vmem s e) :
    (iprop(∃ f, held c a f) : sProp 𝕄) ⊢ iprop(∃ d, owns (c : Thread nD τ) a fullShare d) := by
  unfold owns
  iintro ⟨%f, H⟩
  iexists (a.view.read (Elt F) f); iexists f
  isplitr
  swap; · iexact H
  ipureintro; rfl

/-- A whole buffer owned at `x` is held at the contents that read as `x`. -/
theorem held_unread (c : Dev nD) {s : Shape} {e : EltTy} (a : Memref sig .tc .vmem s e) (h : a.IsWhole) (x : Vec F s e) :
    owns (c : Thread nD τ) a fullShare x ⊢ (held c a (h.unread x) : sProp 𝕄) := by
  unfold owns
  iintro ⟨%f, %hf, H⟩
  obtain rfl := h.eq_unread hf
  iexact H

/-- And back. -/
theorem owns_unread (c : Dev nD) {s : Shape} {e : EltTy} (a : Memref sig .tc .vmem s e) (h : a.IsWhole) (x : Vec F s e) :
    (held c a (h.unread x) : sProp 𝕄) ⊢ owns (c : Thread nD τ) a fullShare x := by
  unfold owns
  iintro H
  iexists _
  isplitr
  swap; · iexact H
  ipureintro; exact h.read_unread x

/-! ## The pipeline's data -/

/-- On core `c`: every input's buffer keeps its block, the result's holds `result`, and `Inv` holds between steps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = result m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The body at every point -/

/-- The body's branch is taken at the first point alone. -/
theorem first_iff : ∀ t : Fin cfg0.N, (Scalar.cmpi .ne (Scalar.extui (Scalar.cmpi .eq (BitVec.ofNat 32 (grid0.coords t 0).val) 0#32) : BitVec 32) 0#32 = 1#1) ↔ t.val = 0 :=
  (fun t => by
    have ht : t.val < 32 := Nat.lt_of_lt_of_eq t.isLt N_0
    have e0 : (grid0.coords t 0).val = t.val / 1 % 32 := Pipeline.Grid.coords_val t 0 (by decide) rfl
    simp only [e0]
    word_cmp
   : ∀ t : Fin grid0.N, _ ↔ t.val = 0)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = Inv m c (t.val + 1) t.isLt from rfl, Inv_castSucc m c t, Inv_succ]
  by_cases hz : t.val = 0
  · obtain ⟨n, hn⟩ := t
    obtain rfl : n = 0 := hz
    rw [Inv_zero m c _ _ rfl, scratch_eq]
    iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave H9 := (held_of_owns c _) $$ [H9]
    · iexists _; iexact H9
    icases H9 with ⟨%f, H9⟩
    iapply (body_first c (grid0.coords ⟨0, hn⟩) (win0_0.stage (cfg0.slots ⟨0, hn⟩ 0)) (hstage0_0 ((cfg0.slots ⟨0, hn⟩ 0).cast nbuf0_0)) (win0_1.stage (cfg0.slots ⟨0, hn⟩ 1)) (hstage0_1 ((cfg0.slots ⟨0, hn⟩ 1).cast nbuf0_1)) (win0_2.stage (cfg0.slots ⟨0, hn⟩ 2)) (hstage0_2 ((cfg0.slots ⟨0, hn⟩ 2).cast nbuf0_2)) (win0_3.stage (cfg0.slots ⟨0, hn⟩ 3)) (hstage0_3 ((cfg0.slots ⟨0, hn⟩ 3).cast nbuf0_3)) (win0_4.stage (cfg0.slots ⟨0, hn⟩ 4)) (hstage0_4 ((cfg0.slots ⟨0, hn⟩ 4).cast nbuf0_4)) (win0_5.stage (cfg0.slots ⟨0, hn⟩ 5)) (hstage0_5 ((cfg0.slots ⟨0, hn⟩ 5).cast nbuf0_5)) (win0_6.stage (cfg0.slots ⟨0, hn⟩ 6)) (hstage0_6 ((cfg0.slots ⟨0, hn⟩ 6).cast nbuf0_6)) (win0_7.stage (cfg0.slots ⟨0, hn⟩ 7)) (hstage0_7 ((cfg0.slots ⟨0, hn⟩ 7).cast nbuf0_7)) (win0_8.stage (cfg0.slots ⟨0, hn⟩ 8)) (hstage0_8 ((cfg0.slots ⟨0, hn⟩ 8).cast nbuf0_8)) (win0_9.stage (cfg0.slots ⟨0, hn⟩ 9)) (hstage0_9 ((cfg0.slots ⟨0, hn⟩ 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) ((first_iff ⟨0, hn⟩).mpr rfl) Set.univ _ f)
    isplitl [H0 H1 H2 H3 H4 H5 H6 H7 H8]
    · unfold Blocks
      isplitl [H0]; · iapply (held_unread c _ _ _); iexact H0
      isplitl [H1]; · iapply (held_unread c _ _ _); iexact H1
      isplitl [H2]; · iapply (held_unread c _ _ _); iexact H2
      isplitl [H3]; · iapply (held_unread c _ _ _); iexact H3
      isplitl [H4]; · iapply (held_unread c _ _ _); iexact H4
      isplitl [H5]; · iapply (held_unread c _ _ _); iexact H5
      isplitl [H6]; · iapply (held_unread c _ _ _); iexact H6
      isplitl [H7]; · iapply (held_unread c _ _ _); iexact H7
      iapply (held_unread c _ _ _); iexact H8
    isplitl [H9]; · iexact H9
    isplitl [S0]; · iapply (held_of_owns c _); iexact S0
    isplitl [S1]; · iapply (held_of_owns c _); iexact S1
    isplitl [S2]; · iapply (held_of_owns c _); iexact S2
    isplitl [S3]; · iapply (held_of_owns c _); iexact S3
    isplitl [S4]; · iapply (held_of_owns c _); iexact S4
    isplitl [S5]; · iapply (held_of_owns c _); iexact S5
    isplitl [S6]; · iapply (held_of_owns c _); iexact S6
    iintro ⟨HB, H9, HC⟩
    unfold Blocks
    icases HB with ⟨H0, H1, H2, H3, H4, H5, H6, H7, H8⟩
    isplitl [HC Hg]
    · isplitl [HC]; · iexact HC
      iexact Hg
    isplitl [Ho]; · iexact Ho
    isplitl [H0]; · iapply (owns_unread c _ _ _); iexact H0
    isplitl [H1]; · iapply (owns_unread c _ _ _); iexact H1
    isplitl [H2]; · iapply (owns_unread c _ _ _); iexact H2
    isplitl [H3]; · iapply (owns_unread c _ _ _); iexact H3
    isplitl [H4]; · iapply (owns_unread c _ _ _); iexact H4
    isplitl [H5]; · iapply (owns_unread c _ _ _); iexact H5
    isplitl [H6]; · iapply (owns_unread c _ _ _); iexact H6
    isplitl [H7]; · iapply (owns_unread c _ _ _); iexact H7
    isplitl [H8]; · iapply (owns_unread c _ _ _); iexact H8
    iapply (owns_unread c _ _ _); iexact H9
  · rw [Inv_pos m c t hz]
    iintro ⟨⟨HC, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave H9 := (held_of_owns c _) $$ [H9]
    · iexists _; iexact H9
    icases H9 with ⟨%f, H9⟩
    iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (iblk m c 0 t) (iblk m c 1 t) (iblk m c 2 t) (iblk m c 3 t) (iblk m c 4 t) (iblk m c 5 t) (iblk m c 6 t) (iblk m c 7 t) (iblk m c 8 t) _ _ (fun h => hz ((first_iff t).mp h)) Set.univ _ f)
    isplitl [H0 H1 H2 H3 H4 H5 H6 H7 H8]
    · unfold Blocks
      isplitl [H0]; · iapply (held_unread c _ _ _); iexact H0
      isplitl [H1]; · iapply (held_unread c _ _ _); iexact H1
      isplitl [H2]; · iapply (held_unread c _ _ _); iexact H2
      isplitl [H3]; · iapply (held_unread c _ _ _); iexact H3
      isplitl [H4]; · iapply (held_unread c _ _ _); iexact H4
      isplitl [H5]; · iapply (held_unread c _ _ _); iexact H5
      isplitl [H6]; · iapply (held_unread c _ _ _); iexact H6
      isplitl [H7]; · iapply (held_unread c _ _ _); iexact H7
      iapply (held_unread c _ _ _); iexact H8
    isplitl [H9]; · iexact H9
    isplitl [HC]; · iexact HC
    iintro ⟨HB, H9, HC⟩
    unfold Blocks
    icases HB with ⟨H0, H1, H2, H3, H4, H5, H6, H7, H8⟩
    isplitl [HC Hg]
    · isplitl [HC]; · iexact HC
      iexact Hg
    isplitl [Ho]; · iexact Ho
    isplitl [H0]; · iapply (owns_unread c _ _ _); iexact H0
    isplitl [H1]; · iapply (owns_unread c _ _ _); iexact H1
    isplitl [H2]; · iapply (owns_unread c _ _ _); iexact H2
    isplitl [H3]; · iapply (owns_unread c _ _ _); iexact H3
    isplitl [H4]; · iapply (owns_unread c _ _ _); iexact H4
    isplitl [H5]; · iapply (owns_unread c _ _ _); iexact H5
    isplitl [H6]; · iapply (owns_unread c _ _ _); iexact H6
    isplitl [H7]; · iapply (owns_unread c _ _ _); iexact H7
    isplitl [H8]; · iapply (owns_unread c _ _ _); iexact H8
    iapply (owns_unread c _ _ _); iexact H9

theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

/-- After the last step the scratch is given back. -/
theorem hout (c : Dev nD) : (dats m 0 c).Φ (Fin.last cfg0.N) ⊢ Pipeline.ΦA spec0 c := by
  rw [show (dats m 0 c).Φ (Fin.last cfg0.N) = Inv m c (31 + 1) (by decide) from rfl, scratch_eq]
  unfold Inv Carried
  iintro ⟨⟨⟨%f0, S0⟩, ⟨%f1, S1⟩, ⟨%f2, S2⟩, ⟨%f3, S3⟩, ⟨%f4, S4⟩, ⟨%f5, S5⟩, ⟨%f6, S6⟩⟩, Hg⟩
  isplitl [S0 S1 S2 S3 S4 S5 S6]
  · isplitl [S0]; · iapply (owns_of_held c _); iexists _; iexact S0
    isplitl [S1]; · iapply (owns_of_held c _); iexists _; iexact S1
    isplitl [S2]; · iapply (owns_of_held c _); iexists _; iexact S2
    isplitl [S3]; · iapply (owns_of_held c _); iexists _; iexact S3
    isplitl [S4]; · iapply (owns_of_held c _); iexists _; iexact S4
    isplitl [S5]; · iapply (owns_of_held c _); iexists _; iexact S5
    iapply (owns_of_held c _); iexists _; iexact S6
  iexact Hg

/-! ## The run and the frame -/

set_option backward.isDefEq.respectTransparency.types false in
/-- Every weakly fair execution ends, with the arrays of the pipeline as `dats` says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every weakly fair execution ends, with the arguments unchanged and every semaphore at zero. -/
theorem frame_run : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  θ_run_and (frame_of m ρ (dats m) (A_eq m) (run_main m ρ)) ((θ_run defs _ _).mono (fun _ h => h.2) (run_quiescent m ρ))

end Cert.Rec
-- ==== Proof.RecFrames.lean ====
module

public import proofs.«01_k».proof.Defs
public import proofs.«01_k».proof.Proof.RecFrame
public import proofs.«01_k».proof.Proof.Gen.Kernel
public import proofs.«01_k».proof.Proof.Gen.ReferenceIdeal
public import proofs.«01_k».proof.Proof.Gen.ReferenceIdeal.StepRun
public import Idealize.ShloMosaic.Adequacy

@[expose] public section

set_option maxRecDepth 16384

noncomputable section

namespace Cert.Proof.Rec

open Idealize.ShloMosaic Idealize.ShloMosaic.TcCoe Idealize.SL.Sem

/-- The machine's words, with each named constant at the word the source has: what the program's own text computes. -/
local instance wordsNamed : Named Bits where
  named _ _ bits := FloatOps.ofBits bits

/-- The two programs have the same kernel body, -/
theorem body_eq : Cert.Kernel.cc0_rec_front (F := Bits) = Cert.KernelIdeal.cc0_rec_front (F := Bits) := rfl

/-- the same table of bodies -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    dsimp only
    rw [body_eq]
    rfl
  | ⟨_ + 1, h⟩, _ => exact absurd h (Nat.not_lt.2 (Nat.le_add_left _ _))

/-- and the same definitions. -/
theorem defs_eq : Cert.Kernel.defs (F := Bits) = Cert.KernelIdeal.defs (F := Bits) := by
  unfold Cert.Kernel.defs Cert.KernelIdeal.defs
  rw [defs₀_eq]
  rfl

/-- What the run says of the idealized text it says of any text with the same definitions and the same entry point. -/
theorem frame_same (d : Defs Cert.KernelIdeal.nD Cert.KernelIdeal.τ Cert.KernelIdeal.sig (Elt Bits) _) (hd : d = Cert.KernelIdeal.defs (F := Bits))
    (e : Dev Cert.KernelIdeal.nD → Prog _ PUnit) (he : e = Cert.KernelIdeal.main (F := Bits))
    (m : (ℓ : Loc Cert.KernelIdeal.nD Cert.KernelIdeal.τ Cert.KernelIdeal.sig) → Buf (Elt Bits) ℓ) (ρ : Dev Cert.KernelIdeal.nD → PrngReg) :
    θ_run d (onTc (τ := Cert.KernelIdeal.τ) e) ⟨m, fun _ => 0, ρ⟩ (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) ∧ r.2.sem = fun _ => 0) := by
  subst hd he
  exact Cert.Rec.frame_run (F := Bits) m ρ

theorem main_eq : Cert.Kernel.main (F := Bits) = Cert.KernelIdeal.main (F := Bits) := rfl

set_option maxHeartbeats 1000000 in
theorem frame_kernel : Cert.quiescent_Kernel := fun m ρ _ =>
  frame_same Cert.Kernel.defs defs_eq Cert.Kernel.main main_eq m ρ

theorem frame_ideal : Cert.quiescent_KernelIdeal := fun m ρ _ => Cert.Rec.frame_run (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.StepRun.run_iter (F := Ideal) m ρ (fun c n => Nat.rec (Cert.ReferenceIdeal.StepRun.initState m c) (fun n s => Cert.ReferenceIdeal.Step.step n s) n)
      (fun _ => rfl) (fun _ _ => rfl))

theorem preserves : Cert.preserves_Kernel_KernelIdeal :=
  ⟨IdealRules.named_const.statement Cert.KernelIdeal.κ "half_log2e" .f32 0x3F38AA3B#32 _ rfl,
    IdealRules.named_const.statement Cert.KernelIdeal.κ "guard" .f32 0x0DA24260#32 _ rfl⟩

end Cert.Proof.Rec
-- ==== Proof.RecRows.lean ====
module

public import proofs.«01_k».proof.Proof.RecBody
public import proofs.«01_k».proof.Proof.MlpSpec
public import Idealize.ShloMosaic.Lib.Pipeline.ValueKit
public import Idealize.ShloMosaic.Lib.Pointwise
public import Idealize.ShloMosaic.Lib.WholeRead

/-! # The recurrent layer: norm and input projection of the rows of one grid step -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec

/-- Row `q` of the exchange of time and sequence within 64 rows has its one at column `8 * (q % 8) + q / 8`. -/
theorem swap_entry (q p : Fin 64) :
    k0_pay6 (F := Ideal) (ix2 q p) = if p.val = 8 * (q.val % 8) + q.val / 8 then (1 : EReal) else 0 := by
  pointwise [k0_pay6]
  have h : ∀ q p : Fin 64, IntOp.andi
        (IntOp.cmpi CmpIPredicate.eq (IntOp.shrsi ArithUnit.vector (BitVec.ofNat 32 q.val) 3#32)
          (IntOp.andi (BitVec.ofNat 32 p.val) 7#32))
        (IntOp.cmpi CmpIPredicate.eq (IntOp.andi (BitVec.ofNat 32 q.val) 7#32)
          (IntOp.shrsi ArithUnit.vector (BitVec.ofNat 32 p.val) 3#32)) = if p.val = 8 * (q.val % 8) + q.val / 8 then 1#1 else 0#1 := by
    decide +kernel
  rw [h]
  split <;> rfl

/-- So a product with it exchanges the rows, whatever they hold. -/
theorem swap_sum (q : Fin 64) (x : Fin 64 → EReal) :
    ∑ p : Fin 64, (k0_pay6 (F := Ideal) (ix2 q p) : EReal) * x p = x ⟨(8 * (q.val % 8) + q.val / 8) % 64, by omega⟩ := by
  simp only [swap_entry]
  rw [Finset.sum_eq_single (⟨(8 * (q.val % 8) + q.val / 8) % 64, by omega⟩ : Fin 64)]
  · rw [if_pos (by simp only; omega)]; exact one_mul _
  · intro b _ hb
    rw [if_neg (fun h => hb (Fin.ext (by simp only; omega)))]; exact zero_mul _
  · simp

/-- Eight consecutive rows of every sequence, from row `o` of each on. -/
def rowsOf (v : FVec Ideal S512x1024 .f32) (o : Nat) : FVec Ideal S64x1024 .f32 :=
  fun i => v (ix2 ⟨(64 * ((i 0).val / 8) + o + (i 0).val % 8) % 512, Nat.mod_lt _ (by decide)⟩ (i 1))

theorem cat_rows (v : FVec Ideal S512x1024 .f32) (o o1 o2 o3 o4 o5 o6 o7 : Nat) (e1 : o1 = o + 64) (e2 : o2 = o + 128)
    (e3 : o3 = o + 192) (e4 : o4 = o + 256) (e5 : o5 = o + 320) (e6 : o6 = o + 384) (e7 : o7 = o + 448) (ho : o ≤ 56)
    (s0 : S512x1024.Slices ![o, 0] S8x1024) (s1 : S512x1024.Slices ![o1, 0] S8x1024) (s2 : S512x1024.Slices ![o2, 0] S8x1024)
    (s3 : S512x1024.Slices ![o3, 0] S8x1024) (s4 : S512x1024.Slices ![o4, 0] S8x1024) (s5 : S512x1024.Slices ![o5, 0] S8x1024)
    (s6 : S512x1024.Slices ![o6, 0] S8x1024) (s7 : S512x1024.Slices ![o7, 0] S8x1024) :
    concatenate S64x1024 0 [⟨S8x1024, extractStridedSlice S8x1024 ![o, 0] v s0⟩, ⟨S8x1024, extractStridedSlice S8x1024 ![o1, 0] v s1⟩,
      ⟨S8x1024, extractStridedSlice S8x1024 ![o2, 0] v s2⟩, ⟨S8x1024, extractStridedSlice S8x1024 ![o3, 0] v s3⟩,
      ⟨S8x1024, extractStridedSlice S8x1024 ![o4, 0] v s4⟩, ⟨S8x1024, extractStridedSlice S8x1024 ![o5, 0] v s5⟩,
      ⟨S8x1024, extractStridedSlice S8x1024 ![o6, 0] v s6⟩, ⟨S8x1024, extractStridedSlice S8x1024 ![o7, 0] v s7⟩]
      concatenates_S8x1024_S8x1024_S8x1024_S8x1024_S8x1024_S8x1024_S8x1024_S8x1024_S64x1024_d0 = rowsOf v o := by
  subst e1 e2 e3 e4 e5 e6 e7
  funext i
  idx_vars i
  pointwise [rowsOf]
  split_ifs <;> exact congrArg v (congrArg (ix2 · i1) (Fin.ext (by simp only; omega)))

/-- Row `8 * t + b` of the rows normed: step `t` of sequence `b`, of rows kept sequence by sequence. -/
def normedRow (v : FVec Ideal S512x1024 .f32) (x2 : FVec Ideal S1x1024 .f32) (y : ℕ) : Fin 1024 → EReal :=
  rms (fun j => v (ix2 ⟨(64 * (y % 8) + y / 8) % 512, Nat.mod_lt _ (by decide)⟩ j)) (fun j => x2 (ix2 0 j))

/-- The exchange takes row `q` of a stretch of 64 normed rows from where sequence and step say. -/
theorem normed_swap (v : FVec Ideal S512x1024 .f32) (x2 : FVec Ideal S1x1024 .f32) (o q y : ℕ) (hq : q < 64) (ho : o ≤ 56) (hy : y = 8 * o + q) (k : Fin 1024) :
    rms (fun j => rowsOf v o (ix2 ⟨(8 * (q % 8) + q / 8) % 64, Nat.mod_lt _ (by decide)⟩ j)) (fun j => x2 (ix2 0 j)) k = normedRow v x2 y k := by
  subst hy
  obtain ⟨a, b, hb, rfl⟩ : ∃ a b, b < 8 ∧ q = 8 * a + b := ⟨q / 8, q % 8, by omega, by omega⟩
  have e1 : (8 * a + b) % 8 = b := by omega
  have e2 : (8 * a + b) / 8 = a := by omega
  have e3 : (8 * o + (8 * a + b)) % 8 = b := by omega
  have e4 : (8 * o + (8 * a + b)) / 8 = o + a := by omega
  have e5 : (8 * b + a) % 64 = 8 * b + a := by omega
  have e6 : (8 * b + a) / 8 = b := by omega
  have e7 : (8 * b + a) % 8 = a := by omega
  unfold normedRow rowsOf
  congr 1
  funext j
  exact congrArg v (congrArg (ix2 · j) (Fin.ext (by show (64 * (((8 * ((8 * a + b) % 8) + (8 * a + b) / 8) % 64) / 8) + o + ((8 * ((8 * a + b) % 8) + (8 * a + b) / 8) % 64) % 8) % 512 = (64 * ((8 * o + (8 * a + b)) % 8) + (8 * o + (8 * a + b)) / 8) % 512; rw [e1, e2, e3, e4, e5, e6, e7]; omega)))

/-- What stores leave in a buffer, read through a rectangle. -/
theorem readCov_ld {sig : RefSig} {κ : Kind} {sp : Space} {s : Shape} {e : EltTy} (v : View sig κ sp s e) (L : List (View.Piece (Elt Ideal) s e)) (r : Rect s)
    (x : r.shape.Idx) : v.readCov L r.toLoadRect x = View.canon L (r.idx x) :=
  View.read_writes_junk_apply_eq_canon v _ L

/-- A store of a block of rows and columns, read at a row and a column. -/
theorem canon_at {R C n m o p : ℕ} {e : EltTy} (inb) (w : (Rect.unit (s := ⟨2, ![R, C]⟩) ![o, p] ![n, m] inb).shape.Idx → Elt Ideal e)
    (L : List (View.Piece (Elt Ideal) ⟨2, ![R, C]⟩ e)) (r : Fin R) (k : Fin C) :
    View.canon (⟨Rect.unit (s := ⟨2, ![R, C]⟩) ![o, p] ![n, m] inb, w⟩ :: L) (ix2 r k)
      = if h : (o ≤ r.val ∧ r.val < o + n) ∧ (p ≤ k.val ∧ k.val < p + m) then w (ix2 (⟨r.val - o, by omega⟩ : Fin n) (⟨k.val - p, by omega⟩ : Fin m))
        else View.canon L (ix2 r k) := by
  split
  · rename_i h
    have e : (ix2 r k : (⟨2, ![R, C]⟩ : Shape).Idx) = (Rect.unit (s := ⟨2, ![R, C]⟩) ![o, p] ![n, m] inb).emb (ix2 (⟨r.val - o, by omega⟩ : Fin n) (⟨k.val - p, by omega⟩ : Fin m)) := by
      funext a; refine Fin.ext ?_; rw [Rect.emb_apply]
      match a with
      | 0 => show r.val = o + 1 * (r.val - o); omega
      | 1 => show k.val = p + 1 * (k.val - p); omega
    rw [e]; exact View.canon_cons_emb _ _ _ _
  · rename_i h
    refine View.canon_cons_of_not_mem _ _ fun hm => h ?_
    obtain ⟨x, hx⟩ := (Rect.unit (s := ⟨2, ![R, C]⟩) ![o, p] ![n, m] inb).exists_idx_of_mem hm
    have h0 : o + 1 * (x 0).val = r.val := congrArg Fin.val (congrFun hx 0)
    have h1 : p + 1 * (x 1).val = k.val := congrArg Fin.val (congrFun hx 1)
    have l0 : (x 0).val < n := (x 0).isLt
    have l1 : (x 1).val < m := (x 1).isLt
    omega

theorem unit_idx2_full {R C : ℕ} (inb : ∀ a, (![0, 0] : Fin 2 → ℕ) a + (![R, C] : Fin 2 → ℕ) a ≤ (⟨2, ![R, C]⟩ : Shape).size a) (x : (⟨2, ![R, C]⟩ : Shape).Idx) :
    (Rect.unit (s := ⟨2, ![R, C]⟩) ![0, 0] ![R, C] inb).idx x = x := by
  funext a; refine Fin.ext ?_
  match a with
  | 0 => show 0 + 1 * (x 0).val = (x 0).val; omega
  | 1 => show 0 + 1 * (x 1).val = (x 1).val; omega

theorem ix2_ext {n m : ℕ} {a a' : Fin n} {b b' : Fin m} (ha : a.val = a'.val) (hb : b.val = b'.val) : ix2 a b = ix2 a' b' := by
  rw [Fin.ext ha, Fin.ext hb]

/-- The element a box of rows and columns has at a row and a column of its own. -/
theorem unit_idx2 {R C n m o p : ℕ} (inb : ∀ a, (![o, p] : Fin 2 → ℕ) a + (![n, m] : Fin 2 → ℕ) a ≤ (⟨2, ![R, C]⟩ : Shape).size a) (r : Fin n) (k : Fin m) :
    (Rect.unit (s := ⟨2, ![R, C]⟩) ![o, p] ![n, m] inb).idx (ix2 r k)
      = ix2 (⟨o + r.val, by have := inb 0; simp at this; omega⟩ : Fin R) (⟨p + k.val, by have := inb 1; simp at this; omega⟩ : Fin C) := by
  funext a; refine Fin.ext ?_
  match a with
  | 0 => show o + 1 * r.val = o + r.val; omega
  | 1 => show p + 1 * k.val = p + k.val; omega

variable (v21 : FVec Ideal S512x1024 .f32)

theorem slab_slices (o : ℕ) (ho : o ≤ 56) (k : Fin 8) : S512x1024.Slices ![o + 64 * k.val, 0] S8x1024 := by
  refine ⟨rfl, fun a => ?_⟩
  fin_cases a <;> simp [S512x1024, S8x1024] <;> omega

/-- Eight rows of every sequence, normed and exchanged. -/
def swapped (sw : FVec Ideal S64x64 .bf16) (v : FVec Ideal S64x1024 .f32) (g : Vec Ideal S1x1024 .f32) : FVec Ideal S64x1024 .bf16 :=
  k0_pay36 sw v (shapeCast S1x1024 g shapeCasts_S1x1024_S1x1024) (multiReduction .add [1] S64 (mulf v v) 0x00000000#32 reduces_S64x1024_S64 (.inl rfl) rfl)

/-- The rows `o` to `o + 7` of every sequence. -/
def slab (v21 : FVec Ideal S512x1024 .f32) (o : ℕ) (ho : o ≤ 56) : FVec Ideal S64x1024 .f32 :=
  concatenate S64x1024 0 [⟨S8x1024, extractStridedSlice S8x1024 ![o, 0] v21 (slab_slices o ho 0)⟩, ⟨S8x1024, extractStridedSlice S8x1024 ![o + 64, 0] v21 (slab_slices o ho 1)⟩,
    ⟨S8x1024, extractStridedSlice S8x1024 ![o + 128, 0] v21 (slab_slices o ho 2)⟩, ⟨S8x1024, extractStridedSlice S8x1024 ![o + 192, 0] v21 (slab_slices o ho 3)⟩,
    ⟨S8x1024, extractStridedSlice S8x1024 ![o + 256, 0] v21 (slab_slices o ho 4)⟩, ⟨S8x1024, extractStridedSlice S8x1024 ![o + 320, 0] v21 (slab_slices o ho 5)⟩,
    ⟨S8x1024, extractStridedSlice S8x1024 ![o + 384, 0] v21 (slab_slices o ho 6)⟩, ⟨S8x1024, extractStridedSlice S8x1024 ![o + 448, 0] v21 (slab_slices o ho 7)⟩]
    concatenates_S8x1024_S8x1024_S8x1024_S8x1024_S8x1024_S8x1024_S8x1024_S8x1024_S64x1024_d0

/-- The rows `o` to `o + 31` of every sequence, step by step. -/
def rows32 (sw : FVec Ideal S64x64 .bf16) (v21 : FVec Ideal S512x1024 .f32) (g : Vec Ideal S1x1024 .f32) (o : ℕ) (ho : o ≤ 32) : FVec Ideal S256x1024 .bf16 :=
  concatenate S256x1024 0 [⟨S64x1024, swapped sw (slab v21 o (by omega)) g⟩, ⟨S64x1024, swapped sw (slab v21 (o + 8) (by omega)) g⟩,
    ⟨S64x1024, swapped sw (slab v21 (o + 16) (by omega)) g⟩, ⟨S64x1024, swapped sw (slab v21 (o + 24) (by omega)) g⟩] concatenates_S64x1024_S64x1024_S64x1024_S64x1024_S256x1024_d0

/-- The projection of the rows `o` to `o + 31` of every sequence. -/
def proj32 (v21 : FVec Ideal S512x1024 .f32) (g : Vec Ideal S1x1024 .f32) (w : FVec Ideal S1024x2048 .bf16) (b : Vec Ideal S1x2048 .f32) (o : ℕ) (ho : o ≤ 32) : FVec Ideal S256x2048 .f32 :=
  k0_pay40 (matmul dot_S256x1024_S1024x2048_S256x2048_1_0_0_1_n_n none (rows32 k0_pay6 v21 g o ho) w (constant S256x2048 .f32 0x00000000#32)) b

theorem swapped_apply (v : FVec Ideal S64x1024 .f32) (g : Vec Ideal S1x1024 .f32) (q : Fin 64) (k : Fin 1024) :
    swapped k0_pay6 v g (ix2 q k) = rms (fun j => v (ix2 ⟨(8 * (q.val % 8) + q.val / 8) % 64, by omega⟩ j)) (fun j => g (ix2 0 j)) k := by
  unfold swapped
  generalize hp : k0_pay6 (F := Ideal) = sw
  unfold_payloads
  pointwise
  subst hp
  simp only [swap_sum]
  rfl

theorem slab_eq (o : ℕ) (ho : o ≤ 56) : slab v21 o ho = rowsOf v21 o :=
  cat_rows v21 o _ _ _ _ _ _ _ rfl rfl rfl rfl rfl rfl rfl ho _ _ _ _ _ _ _ _

theorem rows32_apply (g : Vec Ideal S1x1024 .f32) (o : ℕ) (ho : o ≤ 32) (r : Fin 256) (k : Fin 1024) :
    rows32 k0_pay6 v21 g o ho (ix2 r k) = normedRow v21 g (8 * o + r.val) k := by
  unfold rows32
  pointwise
  split_ifs <;> rw [swapped_apply, slab_eq] <;> exact normed_swap v21 g _ _ _ (by omega) (by omega) (by first | omega | (dsimp only; omega) | rfl) k

theorem proj32_apply (g : Vec Ideal S1x1024 .f32) (w : FVec Ideal S1024x2048 .bf16) (b : Vec Ideal S1x2048 .f32) (o : ℕ) (ho : o ≤ 32) (r : Fin 256) (k : Fin 2048) :
    proj32 v21 g w b o ho (ix2 r k) = (∑ j : Fin 1024, normedRow v21 g (8 * o + r.val) j * w (ix2 j k)) + b (ix2 0 k) := by
  unfold proj32
  generalize hp : rows32 k0_pay6 v21 g o ho = R
  unfold_payloads
  pointwise
  subst hp
  simp only [rows32_apply]

end Cert.Rec
-- ==== Proof.RecGates.lean ====
module

public import proofs.«01_k».proof.Proof.RecRows

/-! # The recurrent layer: convolution and gates of the rows of one grid step -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec

theorem cols_slices {R : ℕ} (n : ℕ) (hn : n ≤ 7) : (⟨2, ![R, 1024]⟩ : Shape).Slices ![0, 128 * n] ⟨2, ![R, 128]⟩ := by
  refine ⟨rfl, fun a => ?_⟩
  fin_cases a <;> simp <;> omega

/-- The gates' arguments of block `n`. -/
def gz (n : ℕ) (hn : n ≤ 7) (xc : FVec Ideal S256x1024 .f32) (w : Vec Ideal S1x128x256 .bf16) (b : Vec Ideal S1x1x256 .f32) : FVec Ideal S256x256 .f32 :=
  addf (matmul (φ₂ := .bf16) dot_S256x128_S128x256_S256x256_1_0_0_1_n_n none (extractStridedSlice S256x128 ![0, 128 * n] (truncf .bf16 xc bitsLt_bf16_f32) (cols_slices n hn))
    (shapeCast S128x256 w shapeCasts_S1x128x256_S128x256) (constant S256x256 .f32 0x00000000#32)) (broadcastTo S256x256 (shapeCast S1x256 b shapeCasts_S1x1x256_S1x256) broadcasts_S1x256_S256x256)

/-- The factors of block `n`. -/
def fac (n : ℕ) (hn : n ≤ 7) (sp : FVec Ideal S1x1024 .f32) (z : FVec Ideal S256x256 .f32) : FVec Ideal S256x128 .f32 :=
  exp2 (addf (mulf (extractStridedSlice S256x128 ![0, 0] (tanh z) slices_S256x256_o0_0_S256x128)
    (broadcastTo S256x128 (extractStridedSlice S1x128 ![0, 128 * n] sp (cols_slices n hn)) broadcasts_S1x128_S256x128))
    (broadcastTo S256x128 (extractStridedSlice S1x128 ![0, 128 * n] sp (cols_slices n hn)) broadcasts_S1x128_S256x128))

/-- The inputs of block `n`. -/
def inp (n : ℕ) (hn : n ≤ 7) (sp : FVec Ideal S1x1024 .f32) (xc : FVec Ideal S256x1024 .f32) (z : FVec Ideal S256x256 .f32) : FVec Ideal S256x128 .f32 :=
  have om : FVec Ideal S256x128 .f32 := subf (broadcast S256x128 (Scalar.ofBits .f32 0x3F800000#32)) (mulf (fac n hn sp z) (fac n hn sp z))
  mulf (mulf om (rsqrt (maximumf om (broadcast S256x128 (Named.named κ "guard" 0x0DA24260#32)))))
    (mulf (addf (mulf (broadcast S256x128 (Scalar.ofBits .f32 0x3F000000#32)) (extractStridedSlice S256x128 ![0, 128] (tanh z) slices_S256x256_o0_128_S256x128))
      (broadcast S256x128 (Scalar.ofBits .f32 0x3F000000#32))) (extractStridedSlice S256x128 ![0, 128 * n] xc (cols_slices n hn)))

theorem gz_apply (n : ℕ) (hn : n ≤ 7) (xc : FVec Ideal S256x1024 .f32) (w : Vec Ideal S1x128x256 .bf16) (b : Vec Ideal S1x1x256 .f32) (r e : Fin 256) :
    gz n hn xc w b (ix2 r e) = (∑ c : Fin 128, xc (ix2 r ⟨128 * n + c.val, by omega⟩) * w (ix3 0 c e)) + b (ix3 0 0 e) := by
  unfold gz
  pointwise

/-- The factor of a gate argument `z`, where half the logarithm's scale is `s`. -/
def facOf (s z : EReal) : EReal := FloatOps.exp2 (F := Ideal) (φ := .f32) (Ideal.tanh z * s + s)

/-- The input of a factor, a gate argument and a convolved row. -/
def inpOf (a z x : EReal) : EReal :=
  ((1 - a * a) * Ideal.rsqrt (max (1 - a * a) (Named.named (F := Ideal) (φ := .f32) κ "guard" 0x0DA24260#32)))
    * ((Ideal.ofBits .f32 0x3F000000#32 * Ideal.tanh z + Ideal.ofBits .f32 0x3F000000#32) * x)

/-- The smooth gate. -/
def geluOf (x : EReal) : EReal :=
  x * (Ideal.ofBits .f32 0x3F000000#32 * (1 + Ideal.tanh (Ideal.ofBits .f32 0x3F4C422A#32 * (x + Ideal.ofBits .f32 0x3D372713#32 * (x * (x * x))))))

theorem fac_apply (n : ℕ) (hn : n ≤ 7) (sp : FVec Ideal S1x1024 .f32) (z : FVec Ideal S256x256 .f32) (r : Fin 256) (q : Fin 128) :
    fac n hn sp z (ix2 r q) = facOf (sp (ix2 0 ⟨128 * n + q.val, by omega⟩)) (z (ix2 r ⟨q.val, by omega⟩)) := by
  unfold fac
  pointwise
  rfl

theorem inp_apply (n : ℕ) (hn : n ≤ 7) (sp : FVec Ideal S1x1024 .f32) (xc : FVec Ideal S256x1024 .f32) (z : FVec Ideal S256x256 .f32) (r : Fin 256) (q : Fin 128) :
    inp n hn sp xc z (ix2 r q) = inpOf (fac n hn sp z (ix2 r q)) (z (ix2 r ⟨128 + q.val, by omega⟩)) (xc (ix2 r ⟨128 * n + q.val, by omega⟩)) := by
  unfold inp
  pointwise
  rfl

theorem gelu_apply (x : Vec Ideal S256x1024 .f32) (r : Fin 256) (q : Fin 1024) : k0_pay20 x (ix2 r q) = geluOf (x (ix2 r q)) := by
  unfold_payloads
  pointwise
  rfl

theorem conv_apply (r : Fin 256) (k : Fin 1024) (v174 : Vec Ideal S1x1024 .f32) (v176 : Vec Ideal S256x1024 .f32) (v177 : Vec Ideal S1x1024 .f32) (v183 : Vec Ideal S256x1024 .f32) (v184 : Vec Ideal S1x1024 .f32) (v189 : Vec Ideal S256x1024 .f32) (v190 : Vec Ideal S1x1024 .f32) (v195 : Vec Ideal S256x1024 .f32) (v196 : Vec Ideal S1x1024 .f32) :
    k0_pay21 v174 v176 v177 v183 v184 v189 v190 v195 v196 (ix2 r k) = v174 (ix2 0 k) + v176 (ix2 r k) * v177 (ix2 0 k) + v183 (ix2 r k) * v184 (ix2 0 k) + v189 (ix2 r k) * v190 (ix2 0 k) + v195 (ix2 r k) * v196 (ix2 0 k) := by
  unfold_payloads
  pointwise

/-- Where every store of a list agrees with `f`, so does what the list leaves. -/
theorem canon_of_forall {s : Shape} {e : EltTy} (f : s.Idx → Elt Ideal e) : ∀ (L : List (View.Piece (Elt Ideal) s e)) (y : s.Idx), (∀ p ∈ L, ∀ x, p.2 x = f (p.1.idx x)) → (∃ p ∈ L, y ∈ p.1.set) → View.canon L y = f y := by
  intro L y hL hy
  induction L with
  | nil => obtain ⟨p, hp, _⟩ := hy; exact absurd hp (by simp)
  | cons p L ih =>
    by_cases h : y ∈ p.1.set
    · obtain ⟨x, rfl⟩ := p.1.exists_idx_of_mem h
      exact (View.canon_cons_emb _ _ _ _).trans (hL p (by simp) x)
    · refine (View.canon_cons_of_not_mem _ _ h).trans (ih (fun q hq => hL q (by simp [hq])) ?_)
      obtain ⟨q, hq, hm⟩ := hy
      rcases List.mem_cons.1 hq with rfl | hq
      · exact absurd hm h
      · exact ⟨q, hq, hm⟩

end Cert.Rec
-- ==== Proof.RecValue.lean ====
module

public import proofs.«01_k».proof.Proof.RecGates

/-! # The recurrent layer: what one grid step computes, row by row -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (x1 : Vec Ideal S8x64x1024 .f32) (x2 : Vec Ideal S1x1024 .f32) (x3 : Vec Ideal S1x1024x2048 .f32) (x4 : Vec Ideal S1x2048 .f32)
  (x5 : Vec Ideal S4x1024 .f32) (x6 : Vec Ideal S1x1024 .f32) (x7 : Vec Ideal S8x128x256 .bf16) (x8 : Vec Ideal S8x1x256 .f32) (x9 : Vec Ideal S1x1024 .f32)
  (hal : Vec Ideal S24x1024 .f32) (car : Vec Ideal S8x1024 .f32)

/-- The block of the rows, flattened. -/
def flat : FVec Ideal S512x1024 .f32 := k0_pay7 (View.ld x1 (Rect.unit (s := S8x64x1024) ![0, 0, 0] S8x64x1024.size inb_S8x64x1024_S8x64x1024_0_0_0))
/-- Half the logarithm's scale. -/
def half : FVec Ideal S1x1024 .f32 := k0_pay8 (View.ld x9 (Rect.unit (s := S1x1024) ![0, 0] S1x1024.size inb_S1x1024_S1x1024_0_0))

/-- A whole block, loaded. -/
def gAll : Vec Ideal S1x1024 .f32 := View.readAt (Elt Ideal) a2.view (Rect.unit (s := S1x1024) ![0, 0] S1x1024.size inb_S1x1024_S1x1024_0_0).toLoadRect (h2.unread x2)
/-- The bias, loaded. -/
def bAll : Vec Ideal S1x2048 .f32 := View.readAt (Elt Ideal) a4.view (Rect.unit (s := S1x2048) ![0, 0] S1x2048.size inb_S1x2048_S1x2048_0_0).toLoadRect (h4.unread x4)
/-- The weights, loaded. -/
def wAll : FVec Ideal S1024x2048 .bf16 := a17.view.readCov (Val := Elt Ideal) [⟨Rect.unit (s := S1024x2048) ![0, 1024] S1024x1024.size (by decide), wHi x3⟩, ⟨Rect.unit (s := S1024x2048) ![0, 0] S1024x1024.size (by decide), wLo x3⟩]
  (Rect.unit (s := S1024x2048) ![0, 0] S1024x2048.size (by decide)).toLoadRect

set_option maxHeartbeats 1000000 in
theorem pj_1 : (pj c i a1 h1 a2 h2 a3 h3 a4 h4 a5 h5 a6 h6 a7 h7 a8 h8 a9 h9 a10 h10 a11 h11 a12 h12 a13 h13 a14 h14 a15 h15 a16 h16 a17 h17 x1 x2 x3 x4 hal).1 = shapeCast S256x1024 (extractStridedSlice S256x1024 ![0, 0] (proj32 (flat x1) (gAll a2 h2 x2) (wAll a17 x3) (bAll a4 h4 x4) 0 (by decide)) slices_S256x2048_o0_0_S256x1024) shapeCasts_S256x1024_S256x1024 := by
  rfl

set_option maxHeartbeats 1000000 in
theorem md_P1 : (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 = shapeCast S256x1024 (extractStridedSlice S256x1024 ![0, 0] (proj32 (flat x1) (gAll a2 h2 x2) (wAll a17 x3) (bAll a4 h4 x4) 32 (by decide)) slices_S256x2048_o0_0_S256x1024) shapeCasts_S256x1024_S256x1024 := by
  rfl

/-- A row of the convolution's weights, loaded. -/
def cwAt (n : ℕ) (hn : n ≤ 3) : Vec Ideal S1x1024 .f32 := View.readAt (Elt Ideal) a5.view (Rect.unit (s := S4x1024) ![n, 0] S1x1024.size (by intro a; fin_cases a <;> simp [S4x1024, S1x1024] <;> omega)).toLoadRect (h5.unread x5)
/-- The convolution's bias, loaded. -/
def cbAll : Vec Ideal S1x1024 .f32 := View.readAt (Elt Ideal) a6.view (Rect.unit (s := S1x1024) ![0, 0] S1x1024.size inb_S1x1024_S1x1024_0_0).toLoadRect (h6.unread x6)
/-- A block of the gates' weights, loaded. -/
def wgAt (n : ℕ) (hn : n ≤ 7) : Vec Ideal S1x128x256 .bf16 := View.readAt (Elt Ideal) a7.view (Rect.unit (s := S8x128x256) ![n, 0, 0] S1x128x256.size (by intro a; fin_cases a <;> simp [S8x128x256, S1x128x256] <;> omega)).toLoadRect (h7.unread x7)
/-- A block of the gates' bias, loaded. -/
def bgAt (n : ℕ) (hn : n ≤ 7) : Vec Ideal S1x1x256 .f32 := View.readAt (Elt Ideal) a8.view (Rect.unit (s := S8x1x256) ![n, 0, 0] S1x1x256.size (by intro a; fin_cases a <;> simp [S8x1x256, S1x1x256] <;> omega)).toLoadRect (h8.unread x8)

/-- The carried and projected rows of both halves. -/
def both : List (View.Piece (Elt Ideal) S536x1024 .f32) :=
  [⟨Rect.unit (s := S536x1024) ![280, 0] S256x1024.size (by decide), (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1⟩, ⟨Rect.unit (s := S536x1024) ![24, 0] S256x1024.size (by decide), (pj c i a1 h1 a2 h2 a3 h3 a4 h4 a5 h5 a6 h6 a7 h7 a8 h8 a9 h9 a10 h10 a11 h11 a12 h12 a13 h13 a14 h14 a15 h15 a16 h16 a17 h17 x1 x2 x3 x4 hal).1⟩, ⟨Rect.unit (s := S536x1024) ![0, 0] S24x1024.size (by decide), hal⟩]

/-- 256 of these rows, loaded from row `n` on. -/
def xsAt (L : List (View.Piece (Elt Ideal) S536x1024 .f32)) (n : ℕ) (hn : n ≤ 280) : Vec Ideal S256x1024 .f32 :=
  a11.view.readCov (Val := Elt Ideal) L (Rect.unit (s := S536x1024) ![n, 0] S256x1024.size (by intro a; fin_cases a <;> simp [S536x1024, S256x1024] <;> omega)).toLoadRect

/-- The convolved rows, from row `o` on. -/
def conv (L : List (View.Piece (Elt Ideal) S536x1024 .f32)) (o : ℕ) (ho : o ≤ 256) : FVec Ideal S256x1024 .f32 :=
  k0_pay21 (cbAll a6 h6 x6) (xsAt a11 L o (by omega)) (cwAt a5 h5 x5 0 (by decide)) (xsAt a11 L (o + 8) (by omega)) (cwAt a5 h5 x5 1 (by decide))
    (xsAt a11 L (o + 16) (by omega)) (cwAt a5 h5 x5 2 (by decide)) (xsAt a11 L (o + 24) (by omega)) (cwAt a5 h5 x5 3 (by decide))

/-- The factors of block `n`, stored from row `o` on. -/
def facPiece (o : ℕ) (ho : o ≤ 256) (n : ℕ) (hn : n ≤ 7) (xc : FVec Ideal S256x1024 .f32) : View.Piece (Elt Ideal) S512x1024 .f32 :=
  ⟨Rect.unit (s := S512x1024) ![o, 128 * n] S256x128.size (by intro a; fin_cases a <;> simp [S512x1024, S256x128] <;> omega),
    shapeCast S256x128 (fac n hn (half x9) (gz n hn xc (wgAt a7 h7 x7 n hn) (bgAt a8 h8 x8 n hn))) shapeCasts_S256x128_S256x128⟩

/-- The inputs of block `n`, stored from row `o` on. -/
def inpPiece (o : ℕ) (ho : o ≤ 256) (n : ℕ) (hn : n ≤ 7) (xc : FVec Ideal S256x1024 .f32) : View.Piece (Elt Ideal) S512x1024 .f32 :=
  ⟨Rect.unit (s := S512x1024) ![o, 128 * n] S256x128.size (by intro a; fin_cases a <;> simp [S512x1024, S256x128] <;> omega),
    shapeCast S256x128 (inp n hn (half x9) xc (gz n hn xc (wgAt a7 h7 x7 n hn) (bgAt a8 h8 x8 n hn))) shapeCasts_S256x128_S256x128⟩

/-- The convolved rows of the first half. -/
abbrev xcLo : FVec Ideal S256x1024 .f32 := conv a5 h5 a6 h6 a11 x5 x6 (both c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).tail 0 (by decide)
/-- The convolved rows of the second half. -/
abbrev xcHi : FVec Ideal S256x1024 .f32 := conv a5 h5 a6 h6 a11 x5 x6 (both c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) 256 (by decide)

set_option maxHeartbeats 4000000 in
theorem md_12 : (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.1 = [facPiece a7 h7 a8 h8 x7 x8 x9 0 (by decide) 7 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 6 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 5 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 4 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 3 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 2 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 1 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 0 (by decide) 0 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal)] := by
  rfl

set_option maxHeartbeats 4000000 in
theorem md_13 : (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1 = [inpPiece a7 h7 a8 h8 x7 x8 x9 0 (by decide) 7 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 6 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 5 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 4 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 3 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 2 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 1 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 0 (by decide) 0 (by decide) (xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal)] := by
  rfl

set_option maxHeartbeats 4000000 in
theorem up_12 : (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.1 = [facPiece a7 h7 a8 h8 x7 x8 x9 256 (by decide) 7 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 6 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 5 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 4 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 3 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 2 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 1 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), facPiece a7 h7 a8 h8 x7 x8 x9 256 (by decide) 0 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal)] := by
  rfl

set_option maxHeartbeats 4000000 in
theorem up_13 : (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.2.1 ++ (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.2.2.1 = [inpPiece a7 h7 a8 h8 x7 x8 x9 256 (by decide) 7 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 6 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 5 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 4 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 3 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 2 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 1 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal), inpPiece a7 h7 a8 h8 x7 x8 x9 256 (by decide) 0 (by decide) (xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal)] := by
  rfl

end Cert.Rec
-- ==== Proof.RecRead.lean ====
module

public import proofs.«01_k».proof.Proof.RecValue

/-! # The recurrent layer: one grid step, read at a row and a column -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (x1 : Vec Ideal S8x64x1024 .f32) (x2 : Vec Ideal S1x1024 .f32) (x3 : Vec Ideal S1x1024x2048 .f32) (x4 : Vec Ideal S1x2048 .f32)
  (x5 : Vec Ideal S4x1024 .f32) (x6 : Vec Ideal S1x1024 .f32) (x7 : Vec Ideal S8x128x256 .bf16) (x8 : Vec Ideal S8x1x256 .f32) (x9 : Vec Ideal S1x1024 .f32)
  (hal : Vec Ideal S24x1024 .f32) (car : Vec Ideal S8x1024 .f32)

theorem ix3_ext {n m l : ℕ} {a a' : Fin n} {b b' : Fin m} {d d' : Fin l} (ha : a.val = a'.val) (hb : b.val = b'.val) (hd : d.val = d'.val) : ix3 a b d = ix3 a' b' d' := by
  rw [Fin.ext ha, Fin.ext hb, Fin.ext hd]

/-- The element a box of a cube has at an index of its own. -/
theorem unit_idx3 {R C D n m l o p q : ℕ} (inb : ∀ a, (![o, p, q] : Fin 3 → ℕ) a + (![n, m, l] : Fin 3 → ℕ) a ≤ (⟨3, ![R, C, D]⟩ : Shape).size a) (r : Fin n) (k : Fin m) (e : Fin l) :
    (Rect.unit (s := ⟨3, ![R, C, D]⟩) ![o, p, q] ![n, m, l] inb).idx (ix3 r k e)
      = ix3 (⟨o + r.val, by have := inb 0; simp at this; omega⟩ : Fin R) (⟨p + k.val, by have := inb 1; simp at this; omega⟩ : Fin C) (⟨q + e.val, by have := inb 2; simp at this; omega⟩ : Fin D) := by
  funext a; refine Fin.ext ?_
  match a with
  | 0 => show o + 1 * r.val = o + r.val; omega
  | 1 => show p + 1 * k.val = p + k.val; omega
  | 2 => show q + 1 * e.val = q + e.val; omega

theorem gAll_eq : gAll a2 h2 x2 = x2 := by
  funext x
  exact (h2.readAt_unread x2 (Rect.unit (s := S1x1024) ![0, 0] S1x1024.size inb_S1x1024_S1x1024_0_0).toLoadRect x).trans (congrArg x2 (unit_idx2_full inb_S1x1024_S1x1024_0_0 x))

theorem bAll_eq : bAll a4 h4 x4 = x4 := by
  funext x
  exact (h4.readAt_unread x4 (Rect.unit (s := S1x2048) ![0, 0] S1x2048.size inb_S1x2048_S1x2048_0_0).toLoadRect x).trans (congrArg x4 (unit_idx2_full inb_S1x2048_S1x2048_0_0 x))

theorem cbAll_eq : cbAll a6 h6 x6 = x6 := by
  funext x
  exact (h6.readAt_unread x6 (Rect.unit (s := S1x1024) ![0, 0] S1x1024.size inb_S1x1024_S1x1024_0_0).toLoadRect x).trans (congrArg x6 (unit_idx2_full inb_S1x1024_S1x1024_0_0 x))

theorem cwAt_apply (n : ℕ) (hn : n ≤ 3) (k : Fin 1024) : cwAt a5 h5 x5 n hn (ix2 0 k) = x5 (ix2 ⟨n, by omega⟩ k) :=
  (h5.readAt_unread x5 _ _).trans (congrArg x5 ((unit_idx2 _ _ _).trans (ix2_ext (by simp) (by simp))))

theorem wgAt_apply (n : ℕ) (hn : n ≤ 7) (k : Fin 128) (e : Fin 256) : wgAt a7 h7 x7 n hn (ix3 0 k e) = x7 (ix3 ⟨n, by omega⟩ k e) :=
  (h7.readAt_unread x7 _ _).trans (congrArg x7 ((unit_idx3 _ _ _ _).trans (ix3_ext (by simp) (by simp) (by simp))))

theorem bgAt_apply (n : ℕ) (hn : n ≤ 7) (e : Fin 256) : bgAt a8 h8 x8 n hn (ix3 0 0 e) = x8 (ix3 ⟨n, by omega⟩ 0 e) :=
  (h8.readAt_unread x8 _ _).trans (congrArg x8 ((unit_idx3 _ _ _ _).trans (ix3_ext (by simp) (by simp) (by simp))))

theorem wLo_apply (j k : Fin 1024) : wLo x3 (ix2 j k) = x3 (ix3 0 j ⟨k.val, by omega⟩) := by
  unfold wLo
  unfold_payloads
  pointwise

theorem wHi_apply (j k : Fin 1024) : wHi x3 (ix2 j k) = x3 (ix3 0 j ⟨1024 + k.val, by omega⟩) := by
  unfold wHi
  unfold_payloads
  pointwise

theorem wAll_apply (j : Fin 1024) (k : Fin 2048) : wAll a17 x3 (ix2 j k) = x3 (ix3 0 j k) := by
  unfold wAll
  refine (readCov_ld _ _ _ _).trans ?_
  rw [unit_idx2_full, canon_at]
  split
  · exact (wHi_apply x3 _ _).trans (congrArg x3 (ix3_ext rfl (by simp) (by simp; omega)))
  · rw [canon_at, dif_pos (by omega)]
    exact (wLo_apply x3 _ _).trans (congrArg x3 (ix3_ext rfl (by simp) (by simp)))

/-- A row of the projections: row `8 * t + b` is step `t` of sequence `b`. -/
def projRow (r : ℕ) (k : Fin 2048) : EReal := (∑ j : Fin 1024, normedRow (flat x1) x2 r j * x3 (ix3 0 j k)) + x4 (ix2 0 k)

theorem proj_apply (o : ℕ) (ho : o ≤ 32) (r : Fin 256) (k : Fin 2048) : proj32 (flat x1) (gAll a2 h2 x2) (wAll a17 x3) (bAll a4 h4 x4) o ho (ix2 r k) = projRow x1 x2 x3 x4 (8 * o + r.val) k := by
  rw [proj32_apply, gAll_eq, bAll_eq]
  simp only [wAll_apply]
  rfl

theorem pj_apply (r : Fin 256) (k : Fin 1024) : (pj c i a1 h1 a2 h2 a3 h3 a4 h4 a5 h5 a6 h6 a7 h7 a8 h8 a9 h9 a10 h10 a11 h11 a12 h12 a13 h13 a14 h14 a15 h15 a16 h16 a17 h17 x1 x2 x3 x4 hal).1 (ix2 r k) = projRow x1 x2 x3 x4 r.val ⟨k.val, by omega⟩ := by
  rw [pj_1, shapeCast_self]
  generalize hp : proj32 (flat x1) (gAll a2 h2 x2) (wAll a17 x3) (bAll a4 h4 x4) 0 (by decide) = p
  pointwise
  subst hp
  rw [proj_apply]
  simp

theorem md_apply (r : Fin 256) (k : Fin 1024) : (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.1 (ix2 r k) = projRow x1 x2 x3 x4 (256 + r.val) ⟨k.val, by omega⟩ := by
  rw [md_P1, shapeCast_self]
  generalize hp : proj32 (flat x1) (gAll a2 h2 x2) (wAll a17 x3) (bAll a4 h4 x4) 32 (by decide) = p
  pointwise
  subst hp
  rw [proj_apply]

/-- The rows the convolution reads: 24 carried rows before the projected ones. -/
def xRow (n : ℕ) (k : Fin 1024) : EReal := if h : n < 24 then hal (ix2 ⟨n, h⟩ k) else projRow x1 x2 x3 x4 (n - 24) ⟨k.val, by omega⟩

theorem both_apply (n : Fin 536) (k : Fin 1024) : View.canon (both c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (ix2 n k) = xRow x1 x2 x3 x4 hal n.val k := by
  unfold both xRow
  rw [canon_at]
  split
  · rename_i h
    rw [dif_neg (by omega)]
    exact (md_apply _ _ _ _ _ _ _ _ _ _ _ _ _ _ _ _ _ _ _ _ _ _ _ _ _ _ _ _ _ _ _ _ _ _ _ _ _ _ _ _ _ _ _ _ _ _ _ _).trans (congrArg₂ (projRow x1 x2 x3 x4) (by simp only; omega) (Fin.ext (by simp)))
  · rw [canon_at]
    split
    · rw [dif_neg (by omega)]
      exact (pj_apply _ _ _ _ _ _ _ _ _ _ _ _ _ _ _ _ _ _ _ _ _ _ _ _ _ _ _ _ _ _ _ _ _ _ _ _ _ _ _ _ _ _ _).trans (congrArg₂ (projRow x1 x2 x3 x4) (by simp only) (Fin.ext (by simp)))
    · rw [canon_at, dif_pos (by omega), dif_pos (by omega)]
      exact congrArg hal (ix2_ext (by simp) (by simp))

theorem lower_apply (n : Fin 536) (hn : n.val < 280) (k : Fin 1024) : View.canon (both c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).tail (ix2 n k) = xRow x1 x2 x3 x4 hal n.val k := by
  rw [← both_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal n k]
  unfold both
  rw [canon_at, dif_neg (by omega)]
  rfl

theorem xsAt_apply (L : List (View.Piece (Elt Ideal) S536x1024 .f32)) (n : ℕ) (hn : n ≤ 280) (r : Fin 256) (k : Fin 1024) : xsAt a11 L n hn (ix2 r k) = View.canon L (ix2 ⟨n + r.val, by omega⟩ k) :=
  (readCov_ld _ _ _ _).trans (congrArg (View.canon L) ((unit_idx2 _ _ _).trans (ix2_ext rfl (by simp))))

/-- A row of the convolution. -/
def xcRow (r : ℕ) (k : Fin 1024) : EReal :=
  x6 (ix2 0 k) + xRow x1 x2 x3 x4 hal r k * x5 (ix2 0 k) + xRow x1 x2 x3 x4 hal (r + 8) k * x5 (ix2 1 k)
    + xRow x1 x2 x3 x4 hal (r + 16) k * x5 (ix2 2 k) + xRow x1 x2 x3 x4 hal (r + 24) k * x5 (ix2 3 k)

theorem xcLo_apply (r : Fin 256) (k : Fin 1024) : xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = xcRow x1 x2 x3 x4 x5 x6 hal r.val k := by
  unfold xcLo conv
  rw [conv_apply]
  simp only [xsAt_apply, cbAll_eq, cwAt_apply]
  rw [lower_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _ (by simp only; omega), lower_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _ (by simp only; omega), lower_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _ (by simp only; omega), lower_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _ (by simp only; omega)]
  unfold xcRow
  simp only [Nat.zero_add, Nat.add_comm r.val]
  rfl

theorem xcHi_apply (r : Fin 256) (k : Fin 1024) : xcHi c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = xcRow x1 x2 x3 x4 x5 x6 hal (256 + r.val) k := by
  unfold xcHi conv
  rw [conv_apply]
  simp only [xsAt_apply, cbAll_eq, cwAt_apply, both_apply]
  unfold xcRow
  simp only [Nat.add_right_comm 256 _ r.val]
  rfl

/-- A gate's argument, block `n`, row `r`. -/
def zRow (r : ℕ) (n : Fin 8) (e : Fin 256) : EReal :=
  (∑ d : Fin 128, xcRow x1 x2 x3 x4 x5 x6 hal r ⟨128 * n.val + d.val, by omega⟩ * x7 (ix3 n d e)) + x8 (ix3 n 0 e)

theorem gz_row (o : ℕ) (xc : FVec Ideal S256x1024 .f32) (hx : ∀ (r : Fin 256) (k : Fin 1024), xc (ix2 r k) = xcRow x1 x2 x3 x4 x5 x6 hal (o + r.val) k) (n : ℕ) (hn : n ≤ 7) (r e : Fin 256) :
    gz n hn xc (wgAt a7 h7 x7 n hn) (bgAt a8 h8 x8 n hn) (ix2 r e) = zRow x1 x2 x3 x4 x5 x6 x7 x8 hal (o + r.val) ⟨n, by omega⟩ e := by
  rw [gz_apply]
  simp only [wgAt_apply, bgAt_apply, hx]
  rfl

/-- A factor, at a row and a column. -/
def facRow (r : ℕ) (k : Fin 1024) : EReal := facOf (half x9 (ix2 0 k)) (zRow x1 x2 x3 x4 x5 x6 x7 x8 hal r ⟨k.val / 128, by omega⟩ ⟨k.val % 128, by omega⟩)

/-- An input, at a row and a column. -/
def inpRow (r : ℕ) (k : Fin 1024) : EReal :=
  inpOf (facRow x1 x2 x3 x4 x5 x6 x7 x8 x9 hal r k) (zRow x1 x2 x3 x4 x5 x6 x7 x8 hal r ⟨k.val / 128, by omega⟩ ⟨128 + k.val % 128, by omega⟩) (xcRow x1 x2 x3 x4 x5 x6 hal r k)

theorem fac_row (o : ℕ) (xc : FVec Ideal S256x1024 .f32) (hx : ∀ (r : Fin 256) (k : Fin 1024), xc (ix2 r k) = xcRow x1 x2 x3 x4 x5 x6 hal (o + r.val) k) (n : ℕ) (hn : n ≤ 7) (r : Fin 256) (q : Fin 128) :
    fac n hn (half x9) (gz n hn xc (wgAt a7 h7 x7 n hn) (bgAt a8 h8 x8 n hn)) (ix2 r q) = facRow x1 x2 x3 x4 x5 x6 x7 x8 x9 hal (o + r.val) ⟨128 * n + q.val, by omega⟩ := by
  rw [fac_apply, gz_row a7 h7 a8 h8 x1 x2 x3 x4 x5 x6 x7 x8 hal o xc hx]
  unfold facRow
  refine congrArg (facOf _) (congrArg₂ (zRow x1 x2 x3 x4 x5 x6 x7 x8 hal _) (Fin.ext ?_) (Fin.ext ?_)) <;> simp only <;> omega

theorem inp_row (o : ℕ) (xc : FVec Ideal S256x1024 .f32) (hx : ∀ (r : Fin 256) (k : Fin 1024), xc (ix2 r k) = xcRow x1 x2 x3 x4 x5 x6 hal (o + r.val) k) (n : ℕ) (hn : n ≤ 7) (r : Fin 256) (q : Fin 128) :
    inp n hn (half x9) xc (gz n hn xc (wgAt a7 h7 x7 n hn) (bgAt a8 h8 x8 n hn)) (ix2 r q) = inpRow x1 x2 x3 x4 x5 x6 x7 x8 x9 hal (o + r.val) ⟨128 * n + q.val, by omega⟩ := by
  rw [inp_apply, fac_row a7 h7 a8 h8 x1 x2 x3 x4 x5 x6 x7 x8 x9 hal o xc hx, gz_row a7 h7 a8 h8 x1 x2 x3 x4 x5 x6 x7 x8 hal o xc hx, hx]
  unfold inpRow
  refine congrArg (fun z : EReal => inpOf (facRow x1 x2 x3 x4 x5 x6 x7 x8 x9 hal (o + r.val) ⟨128 * n + q.val, by omega⟩) z (xcRow x1 x2 x3 x4 x5 x6 hal (o + r.val) ⟨128 * n + q.val, by omega⟩))
    (congrArg₂ (zRow x1 x2 x3 x4 x5 x6 x7 x8 hal _) (Fin.ext ?_) (Fin.ext ?_)) <;> simp only <;> omega

theorem facPiece_row (o : ℕ) (ho : o ≤ 256) (xc : FVec Ideal S256x1024 .f32) (hx : ∀ (r : Fin 256) (k : Fin 1024), xc (ix2 r k) = xcRow x1 x2 x3 x4 x5 x6 hal (o + r.val) k) (n : ℕ) (hn : n ≤ 7) :
    ∀ x, (facPiece a7 h7 a8 h8 x7 x8 x9 o ho n hn xc).2 x = (fun y : S512x1024.Idx => facRow x1 x2 x3 x4 x5 x6 x7 x8 x9 hal (y 0).val (y 1)) ((facPiece a7 h7 a8 h8 x7 x8 x9 o ho n hn xc).1.idx x) := by
  intro x
  obtain ⟨r, q, rfl⟩ : ∃ (r : Fin 256) (q : Fin 128), x = ix2 r q := ⟨x 0, x 1, eq_ix2 x⟩
  refine (congrFun (shapeCast_self _ _) _).trans ((fac_row a7 h7 a8 h8 x1 x2 x3 x4 x5 x6 x7 x8 x9 hal o xc hx n hn r q).trans ?_)
  have e : (facPiece a7 h7 a8 h8 x7 x8 x9 o ho n hn xc).1.idx (ix2 r q) = ix2 (⟨o + r.val, by omega⟩ : Fin 512) (⟨128 * n + q.val, by omega⟩ : Fin 1024) := unit_idx2 (by intro a; fin_cases a <;> simp <;> omega) r q
  exact (congrArg (fun y : S512x1024.Idx => facRow x1 x2 x3 x4 x5 x6 x7 x8 x9 hal (y 0).val (y 1)) e).symm

theorem inpPiece_row (o : ℕ) (ho : o ≤ 256) (xc : FVec Ideal S256x1024 .f32) (hx : ∀ (r : Fin 256) (k : Fin 1024), xc (ix2 r k) = xcRow x1 x2 x3 x4 x5 x6 hal (o + r.val) k) (n : ℕ) (hn : n ≤ 7) :
    ∀ x, (inpPiece a7 h7 a8 h8 x7 x8 x9 o ho n hn xc).2 x = (fun y : S512x1024.Idx => inpRow x1 x2 x3 x4 x5 x6 x7 x8 x9 hal (y 0).val (y 1)) ((inpPiece a7 h7 a8 h8 x7 x8 x9 o ho n hn xc).1.idx x) := by
  intro x
  obtain ⟨r, q, rfl⟩ : ∃ (r : Fin 256) (q : Fin 128), x = ix2 r q := ⟨x 0, x 1, eq_ix2 x⟩
  refine (congrFun (shapeCast_self _ _) _).trans ((inp_row a7 h7 a8 h8 x1 x2 x3 x4 x5 x6 x7 x8 x9 hal o xc hx n hn r q).trans ?_)
  have e : (inpPiece a7 h7 a8 h8 x7 x8 x9 o ho n hn xc).1.idx (ix2 r q) = ix2 (⟨o + r.val, by omega⟩ : Fin 512) (⟨128 * n + q.val, by omega⟩ : Fin 1024) := unit_idx2 (by intro a; fin_cases a <;> simp <;> omega) r q
  exact (congrArg (fun y : S512x1024.Idx => inpRow x1 x2 x3 x4 x5 x6 x7 x8 x9 hal (y 0).val (y 1)) e).symm

theorem facs_row (r : Fin 512) (k : Fin 1024) : facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = facRow x1 x2 x3 x4 x5 x6 x7 x8 x9 hal r.val k := by
  have hl : ∀ (r : Fin 256) (k : Fin 1024), xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = xcRow x1 x2 x3 x4 x5 x6 hal (0 + r.val) k := fun r k => by rw [Nat.zero_add]; exact xcLo_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal r k
  refine canon_of_forall (fun y : S512x1024.Idx => facRow x1 x2 x3 x4 x5 x6 x7 x8 x9 hal (y 0).val (y 1)) _ _ ?_ (cover_facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _)
  rw [up_12, md_12]
  intro p hp
  simp only [List.cons_append, List.nil_append, List.mem_cons, List.not_mem_nil, or_false] at hp
  rcases hp with rfl | rfl | rfl | rfl | rfl | rfl | rfl | rfl | rfl | rfl | rfl | rfl | rfl | rfl | rfl | rfl
  iterate 8 exact facPiece_row a7 h7 a8 h8 x1 x2 x3 x4 x5 x6 x7 x8 x9 hal 256 _ _ (xcHi_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) _ _
  iterate 8 exact facPiece_row a7 h7 a8 h8 x1 x2 x3 x4 x5 x6 x7 x8 x9 hal 0 _ _ hl _ _

theorem inps_row (r : Fin 512) (k : Fin 1024) : inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car (ix2 r k) = inpRow x1 x2 x3 x4 x5 x6 x7 x8 x9 hal r.val k := by
  have hl : ∀ (r : Fin 256) (k : Fin 1024), xcLo c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = xcRow x1 x2 x3 x4 x5 x6 hal (0 + r.val) k := fun r k => by rw [Nat.zero_add]; exact xcLo_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal r k
  refine canon_of_forall (fun y : S512x1024.Idx => inpRow x1 x2 x3 x4 x5 x6 x7 x8 x9 hal (y 0).val (y 1)) _ _ ?_ (cover_inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car _)
  rw [← List.append_assoc, up_13, md_13]
  intro p hp
  simp only [List.cons_append, List.nil_append, List.mem_cons, List.not_mem_nil, or_false] at hp
  rcases hp with rfl | rfl | rfl | rfl | rfl | rfl | rfl | rfl | rfl | rfl | rfl | rfl | rfl | rfl | rfl | rfl
  iterate 8 exact inpPiece_row a7 h7 a8 h8 x1 x2 x3 x4 x5 x6 x7 x8 x9 hal 256 _ _ (xcHi_apply c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) _ _
  iterate 8 exact inpPiece_row a7 h7 a8 h8 x1 x2 x3 x4 x5 x6 x7 x8 x9 hal 0 _ _ hl _ _

end Cert.Rec
-- ==== Proof.RecStep.lean ====
module

public import proofs.«01_k».proof.Proof.RecRead

/-! # The recurrent layer: what one grid step hands on and writes, row by row -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec

variable (c : Dev nD) (i : grid0.Coords)
  (a1 : Memref sig .tc .vmem S8x64x1024 .f32) (h1 : a1.IsWhole)
  (a2 : Memref sig .tc .vmem S1x1024 .f32) (h2 : a2.IsWhole)
  (a3 : Memref sig .tc .vmem S1x1024x2048 .f32) (h3 : a3.IsWhole)
  (a4 : Memref sig .tc .vmem S1x2048 .f32) (h4 : a4.IsWhole)
  (a5 : Memref sig .tc .vmem S4x1024 .f32) (h5 : a5.IsWhole)
  (a6 : Memref sig .tc .vmem S1x1024 .f32) (h6 : a6.IsWhole)
  (a7 : Memref sig .tc .vmem S8x128x256 .bf16) (h7 : a7.IsWhole)
  (a8 : Memref sig .tc .vmem S8x1x256 .f32) (h8 : a8.IsWhole)
  (a9 : Memref sig .tc .vmem S1x1024 .f32) (h9 : a9.IsWhole)
  (a10 : Memref sig .tc .vmem S8x64x1024 .bf16) (h10 : a10.IsWhole)
  (a11 : Memref sig .tc .vmem S536x1024 .f32) (h11 : a11.IsWhole)
  (a12 : Memref sig .tc .vmem S512x1024 .f32) (h12 : a12.IsWhole)
  (a13 : Memref sig .tc .vmem S512x1024 .f32) (h13 : a13.IsWhole)
  (a14 : Memref sig .tc .vmem S512x1024 .f32) (h14 : a14.IsWhole)
  (a15 : Memref sig .tc .vmem S512x1024 .f32) (h15 : a15.IsWhole)
  (a16 : Memref sig .tc .vmem S8x1024 .f32) (h16 : a16.IsWhole)
  (a17 : Memref sig .tc .vmem S1024x2048 .bf16) (h17 : a17.IsWhole)

variable (x1 : Vec Ideal S8x64x1024 .f32) (x2 : Vec Ideal S1x1024 .f32) (x3 : Vec Ideal S1x1024x2048 .f32) (x4 : Vec Ideal S1x2048 .f32)
  (x5 : Vec Ideal S4x1024 .f32) (x6 : Vec Ideal S1x1024 .f32) (x7 : Vec Ideal S8x128x256 .bf16) (x8 : Vec Ideal S8x1x256 .f32) (x9 : Vec Ideal S1x1024 .f32)
  (hal : Vec Ideal S24x1024 .f32) (car : Vec Ideal S8x1024 .f32)

/-- The gate branch's projections, from row `8 * o` on. -/
def gIn (o : ℕ) (ho : o ≤ 32) : FVec Ideal S256x1024 .f32 :=
  shapeCast S256x1024 (extractStridedSlice S256x1024 ![0, 1024] (proj32 (flat x1) (gAll a2 h2 x2) (wAll a17 x3) (bAll a4 h4 x4) o ho) slices_S256x2048_o0_1024_S256x1024) shapeCasts_S256x1024_S256x1024

theorem gIn_apply (o : ℕ) (ho : o ≤ 32) (r : Fin 256) (k : Fin 1024) : gIn a2 h2 a4 h4 a17 x1 x2 x3 x4 o ho (ix2 r k) = projRow x1 x2 x3 x4 (8 * o + r.val) ⟨1024 + k.val, by omega⟩ := by
  unfold gIn
  rw [shapeCast_self]
  generalize hp : proj32 (flat x1) (gAll a2 h2 x2) (wAll a17 x3) (bAll a4 h4 x4) o ho = p
  pointwise
  subst hp
  rw [proj_apply]

/-- The gate branch of 256 rows: what is stored, loaded again. -/
def gOut (o : ℕ) (ho : o ≤ 32) (p : ℕ) (hp : p ≤ 256) : FVec Ideal S256x1024 .f32 :=
  k0_pay20 (a15.view.readCov (Val := Elt Ideal) [⟨Rect.unit (s := S512x1024) ![p, 0] S256x1024.size (by intro a; fin_cases a <;> simp [S512x1024, S256x1024] <;> omega), gIn a2 h2 a4 h4 a17 x1 x2 x3 x4 o ho⟩]
    (Rect.unit (s := S512x1024) ![p, 0] S256x1024.size (by intro a; fin_cases a <;> simp [S512x1024, S256x1024] <;> omega)).toLoadRect)

theorem gOut_apply (o : ℕ) (ho : o ≤ 32) (p : ℕ) (hp : p ≤ 256) (r : Fin 256) (k : Fin 1024) : gOut a2 h2 a4 h4 a15 a17 x1 x2 x3 x4 o ho p hp (ix2 r k) = geluOf (projRow x1 x2 x3 x4 (8 * o + r.val) ⟨1024 + k.val, by omega⟩) := by
  unfold gOut
  rw [gelu_apply, readCov_ld, unit_idx2, canon_at, dif_pos (by simp only; omega)]
  refine congrArg geluOf ?_
  refine Eq.trans ?_ (gIn_apply a2 h2 a4 h4 a17 x1 x2 x3 x4 o ho r k)
  exact congrArg _ (ix2_ext (by simp) (by simp))

set_option maxHeartbeats 4000000 in
theorem pj_15 : (pj c i a1 h1 a2 h2 a3 h3 a4 h4 a5 h5 a6 h6 a7 h7 a8 h8 a9 h9 a10 h10 a11 h11 a12 h12 a13 h13 a14 h14 a15 h15 a16 h16 a17 h17 x1 x2 x3 x4 hal).2.1 = [⟨Rect.unit (s := S512x1024) ![0, 0] S256x1024.size (by decide), gOut a2 h2 a4 h4 a15 a17 x1 x2 x3 x4 0 (by decide) 0 (by decide)⟩,
    ⟨Rect.unit (s := S512x1024) ![0, 0] S256x1024.size (by decide), gIn a2 h2 a4 h4 a17 x1 x2 x3 x4 0 (by decide)⟩] := by
  rfl

set_option maxHeartbeats 4000000 in
theorem md_15 : (md c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.1 = [⟨Rect.unit (s := S512x1024) ![256, 0] S256x1024.size (by decide), gIn a2 h2 a4 h4 a17 x1 x2 x3 x4 32 (by decide)⟩] := by
  rfl

set_option maxHeartbeats 4000000 in
theorem up_15 : (up c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal).2.2.2.2.1 = [⟨Rect.unit (s := S512x1024) ![256, 0] S256x1024.size (by decide), gOut a2 h2 a4 h4 a15 a17 x1 x2 x3 x4 32 (by decide) 256 (by decide)⟩] := by
  rfl

theorem gats_row (r : Fin 512) (k : Fin 1024) : gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 r k) = geluOf (projRow x1 x2 x3 x4 r.val ⟨1024 + k.val, by omega⟩) := by
  unfold gats
  rw [up_15, md_15, pj_15]
  simp only [List.cons_append, List.nil_append]
  rw [canon_at]
  split
  · rw [gOut_apply]
    exact congrArg geluOf (congrArg₂ (projRow x1 x2 x3 x4) (by simp only; omega) (Fin.ext (by simp)))
  · rw [canon_at, dif_neg (by omega), canon_at, dif_pos (by omega), gOut_apply]
    exact congrArg geluOf (congrArg₂ (projRow x1 x2 x3 x4) (by simp only; omega) (Fin.ext (by simp)))

set_option maxHeartbeats 4000000 in
theorem halN_eq : halN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car = shapeCast S24x1024 (a11.view.readCov (Val := Elt Ideal) (both c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (Rect.unit (s := S536x1024) ![512, 0] S24x1024.size (by decide)).toLoadRect) shapeCasts_S24x1024_S24x1024 := by
  rfl

theorem halN_row (r : Fin 24) (k : Fin 1024) : halN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car (ix2 r k) = projRow x1 x2 x3 x4 (488 + r.val) ⟨k.val, by omega⟩ := by
  rw [halN_eq]
  refine (congrFun (shapeCast_self _ _) _).trans ?_
  rw [readCov_ld, unit_idx2, both_apply]
  unfold xRow
  rw [dif_neg (by simp only; omega)]
  exact congrArg₂ (projRow x1 x2 x3 x4) (by simp only; omega) (Fin.ext (by simp))

set_option maxHeartbeats 4000000 in
theorem car_eq : (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 = car := by
  have e : (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 = a16.view.readCov (Val := Elt Ideal) [⟨Rect.unit (s := S8x1024) ![0, 0] S8x1024.size (by decide), car⟩] (Rect.unit (s := S8x1024) ![0, 0] S8x1024.size (by decide)).toLoadRect := by
    rfl
  rw [e]
  funext x
  obtain ⟨r, k, rfl⟩ : ∃ (r : Fin 8) (k : Fin 1024), x = ix2 r k := ⟨x 0, x 1, eq_ix2 x⟩
  rw [readCov_ld, unit_idx2_full, canon_at, dif_pos (by omega)]
  exact congrArg car (ix2_ext (by simp) (by simp))

/-- The state of a column after `n` of the step's rows `8 * t + b`. -/
def hRow (b : Fin 8) (k : Fin 1024) : ℕ → EReal
  | 0 => car (ix2 b k)
  | n + 1 => facRow x1 x2 x3 x4 x5 x6 x7 x8 x9 hal (8 * n + b.val) k * hRow b k n + inpRow x1 x2 x3 x4 x5 x6 x7 x8 x9 hal (8 * n + b.val) k

/-- One more row of the state's recurrence. -/
theorem hid_apply (f g : Vec Ideal S512x1024 .f32) (h : Vec Ideal S8x1024 .f32) (n : ℕ) (hn : n < 64) (b : Fin 8) (k : Fin 1024) :
    hid f g h (n + 1) (ix2 b k) = f (ix2 ⟨8 * n + b.val, by omega⟩ k) * hid f g h n (ix2 b k) + g (ix2 ⟨8 * n + b.val, by omega⟩ k) := by
  have ht : n < k0_t1_loop.trips := by rw [trips_eq]; omega
  rw [hid_succ _ _ _ ⟨n, ht⟩]
  have hr : ∀ (X : Vec Ideal S512x1024 .f32), View.ld X (Rect.unit (s := S512x1024) (k0_off1 ⟨n, ht⟩) S8x1024.size (k0_off1_inb ⟨n, ht⟩)) (ix2 b k) = X (ix2 ⟨8 * n + b.val, by omega⟩ k) := fun X => by
    have inb := k0_off1_inb ⟨n, ht⟩
    show X ((Rect.unit (s := S512x1024) (k0_off1 ⟨n, ht⟩) S8x1024.size (k0_off1_inb ⟨n, ht⟩)).idx (ix2 b k)) = _
    generalize hg : k0_off1_inb ⟨n, ht⟩ = pf
    clear hg
    revert pf
    rw [off1]
    intro pf
    exact congrArg X ((unit_idx2 pf b k).trans (ix2_ext rfl (by simp)))
  exact congrArg₂ (· + ·) (congrArg (· * hid f g h n (ix2 b k)) (hr f)) (hr g)

theorem hid_row (b : Fin 8) (k : Fin 1024) (n : ℕ) (hn : n ≤ 64) :
    hid (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 n (ix2 b k) = hRow x1 x2 x3 x4 x5 x6 x7 x8 x9 hal car b k n := by
  induction n with
  | zero => rw [car_eq]; rfl
  | succ n ih =>
    rw [hid_apply _ _ _ n (by omega), ih (by omega), facs_row, inps_row]
    rfl

set_option maxHeartbeats 4000000 in
theorem carN_row (b : Fin 8) (k : Fin 1024) : carN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car (ix2 b k) = hRow x1 x2 x3 x4 x5 x6 x7 x8 x9 hal car b k 64 := by
  have e : carN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car = shapeCast S8x1024 (hid (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 64) shapeCasts_S8x1024_S8x1024 := by rfl
  rw [e, shapeCast_self]
  exact hid_row c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car b k 64 (by decide)

/-- 64 rows of the gated states, exchanged. -/
def xchg (z1 z2 : Vec Ideal S512x1024 .f32) (j : ℕ) (hj : j ≤ 7) : FVec Ideal S64x1024 .f32 :=
  k0_pay142 k0_pay6 (View.readAt (Elt Ideal) a14.view (Rect.unit (s := S512x1024) ![64 * j, 0] S64x1024.size (by intro a; fin_cases a <;> simp [S512x1024, S64x1024] <;> omega)).toLoadRect (h14.unread z1))
    (View.readAt (Elt Ideal) a15.view (Rect.unit (s := S512x1024) ![64 * j, 0] S64x1024.size (by intro a; fin_cases a <;> simp [S512x1024, S64x1024] <;> omega)).toLoadRect (h15.unread z2))

theorem at64 {e : EltTy} (a : Memref sig .tc .vmem S512x1024 e) (h : a.IsWhole) (z : Vec Ideal S512x1024 e) (j : ℕ) (inb) (hj : j ≤ 7) (q : Fin 64) (k : Fin 1024) :
    View.readAt (Elt Ideal) a.view (Rect.unit (s := S512x1024) ![64 * j, 0] S64x1024.size inb).toLoadRect (h.unread z) (ix2 q k) = z (ix2 ⟨64 * j + q.val, by omega⟩ k) :=
  (h.readAt_unread z (Rect.unit (s := S512x1024) ![64 * j, 0] S64x1024.size inb).toLoadRect (ix2 q k)).trans (congrArg z ((unit_idx2 inb q k).trans (ix2_ext rfl (by simp))))

theorem xchg_apply (z1 z2 : Vec Ideal S512x1024 .f32) (j : ℕ) (hj : j ≤ 7) (q : Fin 64) (k : Fin 1024) :
    xchg a14 h14 a15 h15 z1 z2 j hj (ix2 q k) = z1 (ix2 ⟨64 * j + (8 * (q.val % 8) + q.val / 8) % 64, by omega⟩ k) * z2 (ix2 ⟨64 * j + (8 * (q.val % 8) + q.val / 8) % 64, by omega⟩ k) := by
  unfold xchg
  generalize hp : k0_pay6 (F := Ideal) = sw
  generalize hu : View.readAt (Elt Ideal) a14.view (Rect.unit (s := S512x1024) ![64 * j, 0] S64x1024.size _).toLoadRect (h14.unread z1) = u
  generalize hw : View.readAt (Elt Ideal) a15.view (Rect.unit (s := S512x1024) ![64 * j, 0] S64x1024.size _).toLoadRect (h15.unread z2) = w
  unfold_payloads
  pointwise
  subst hp hu hw
  simp only [swap_sum, at64 _ _ _ j _ hj]

/-- Row `8 * b + s` of the exchanged is step `s` of sequence `b`. -/
theorem xchg_at (z1 z2 : Vec Ideal S512x1024 .f32) (j : ℕ) (hj : j ≤ 7) (q : Fin 64) (k : Fin 1024) (s b : ℕ) (n : Fin 512) (hq : q.val = 8 * b + s) (hs : s < 8) (hb : b ≤ 7) (hn : n.val = 64 * j + (8 * s + b)) :
    xchg a14 h14 a15 h15 z1 z2 j hj (ix2 q k) = z1 (ix2 n k) * z2 (ix2 n k) := by
  have e : 64 * j + (8 * (q.val % 8) + q.val / 8) % 64 = n.val := by
    have e1 : q.val % 8 = s := by omega
    have e2 : q.val / 8 = b := by omega
    rw [e1, e2, hn]; omega
  rw [xchg_apply]
  exact congrArg₂ (fun u w : Fin 512 => z1 (ix2 u k) * z2 (ix2 w k)) (Fin.ext e) (Fin.ext e)

theorem eight_slices (b : ℕ) (hb : b ≤ 7) : S64x1024.Slices ![8 * b, 0] S8x1024 := by
  refine ⟨rfl, fun a => ?_⟩
  fin_cases a <;> simp [S64x1024, S8x1024] <;> omega

/-- The result's rows of sequence `b`. -/
def outRows (z1 z2 : Vec Ideal S512x1024 .f32) (b : ℕ) (hb : b ≤ 7) : FVec Ideal S1x64x1024 .bf16 :=
  shapeCast S1x64x1024 (truncf .bf16 (concatenate S64x1024 0 [⟨S8x1024, extractStridedSlice S8x1024 ![8 * b, 0] (xchg a14 h14 a15 h15 z1 z2 0 (by decide)) (eight_slices b hb)⟩, ⟨S8x1024, extractStridedSlice S8x1024 ![8 * b, 0] (xchg a14 h14 a15 h15 z1 z2 1 (by decide)) (eight_slices b hb)⟩, ⟨S8x1024, extractStridedSlice S8x1024 ![8 * b, 0] (xchg a14 h14 a15 h15 z1 z2 2 (by decide)) (eight_slices b hb)⟩, ⟨S8x1024, extractStridedSlice S8x1024 ![8 * b, 0] (xchg a14 h14 a15 h15 z1 z2 3 (by decide)) (eight_slices b hb)⟩, ⟨S8x1024, extractStridedSlice S8x1024 ![8 * b, 0] (xchg a14 h14 a15 h15 z1 z2 4 (by decide)) (eight_slices b hb)⟩, ⟨S8x1024, extractStridedSlice S8x1024 ![8 * b, 0] (xchg a14 h14 a15 h15 z1 z2 5 (by decide)) (eight_slices b hb)⟩, ⟨S8x1024, extractStridedSlice S8x1024 ![8 * b, 0] (xchg a14 h14 a15 h15 z1 z2 6 (by decide)) (eight_slices b hb)⟩, ⟨S8x1024, extractStridedSlice S8x1024 ![8 * b, 0] (xchg a14 h14 a15 h15 z1 z2 7 (by decide)) (eight_slices b hb)⟩]
    concatenates_S8x1024_S8x1024_S8x1024_S8x1024_S8x1024_S8x1024_S8x1024_S8x1024_S64x1024_d0) bitsLt_bf16_f32) shapeCasts_S64x1024_S1x64x1024

theorem outRows_apply (z1 z2 : Vec Ideal S512x1024 .f32) (b : ℕ) (hb : b ≤ 7) (t : Fin 64) (k : Fin 1024) :
    outRows a14 h14 a15 h15 z1 z2 b hb (ix3 0 t k) = z1 (ix2 ⟨8 * t.val + b, by omega⟩ k) * z2 (ix2 ⟨8 * t.val + b, by omega⟩ k) := by
  unfold outRows
  pointwise
  split_ifs <;> exact xchg_at a14 h14 a15 h15 z1 z2 _ _ _ k (t.val % 8) b _ (by simp only; omega) (by omega) hb (by simp only; omega)

/-- And their store. -/
def outPiece (z1 z2 : Vec Ideal S512x1024 .f32) (b : ℕ) (hb : b ≤ 7) : View.Piece (Elt Ideal) S8x64x1024 .bf16 :=
  ⟨Rect.unit (s := S8x64x1024) ![b, 0, 0] S1x64x1024.size (by intro a; fin_cases a <;> simp [S8x64x1024, S1x64x1024] <;> omega), outRows a14 h14 a15 h15 z1 z2 b hb⟩

set_option maxHeartbeats 4000000 in
theorem ot_10 : (ot c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).2.1 = [outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 7 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 6 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 5 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 4 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 3 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 2 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 1 (by decide), outPiece a14 h14 a15 h15 (hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal ) 0 (by decide)] := by
  rfl

theorem outPiece_row (z1 z2 : Vec Ideal S512x1024 .f32) (b : ℕ) (hb : b ≤ 7) :
    ∀ x, (outPiece a14 h14 a15 h15 z1 z2 b hb).2 x = (fun y : S8x64x1024.Idx => z1 (ix2 ⟨8 * (y 1).val + (y 0).val, by have h0 : (y 0).val < 8 := (y 0).isLt; have h1 : (y 1).val < 64 := (y 1).isLt; omega⟩ (y 2)) * z2 (ix2 ⟨8 * (y 1).val + (y 0).val, by have h0 : (y 0).val < 8 := (y 0).isLt; have h1 : (y 1).val < 64 := (y 1).isLt; omega⟩ (y 2)))
      ((outPiece a14 h14 a15 h15 z1 z2 b hb).1.idx x) := by
  intro x
  obtain ⟨r, t, k, rfl⟩ : ∃ (r : Fin 1) (t : Fin 64) (k : Fin 1024), x = ix3 r t k := ⟨x 0, x 1, x 2, eq_ix3 x⟩
  obtain rfl : r = 0 := Subsingleton.elim _ _
  refine (outRows_apply a14 h14 a15 h15 z1 z2 b hb t k).trans ?_
  have e : (outPiece a14 h14 a15 h15 z1 z2 b hb).1.idx (ix3 0 t k) = ix3 (⟨b, by omega⟩ : Fin 8) t k :=
    (unit_idx3 (by intro a; fin_cases a <;> simp <;> omega) 0 t k).trans (ix3_ext (by simp) (by simp) (by simp))
  rw [e]
  rfl

theorem outN_row (b : Fin 8) (t : Fin 64) (k : Fin 1024) :
    outN c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car (ix3 b t k) = hRow x1 x2 x3 x4 x5 x6 x7 x8 x9 hal car b k (t.val + 1) * geluOf (projRow x1 x2 x3 x4 (8 * t.val + b.val) ⟨1024 + k.val, by omega⟩) := by
  unfold outN
  refine (canon_of_forall (fun y : S8x64x1024.Idx => hids c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car (ix2 ⟨8 * (y 1).val + (y 0).val, by have h0 : (y 0).val < 8 := (y 0).isLt; have h1 : (y 1).val < 64 := (y 1).isLt; omega⟩ (y 2)) * gats c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal (ix2 ⟨8 * (y 1).val + (y 0).val, by have h0 : (y 0).val < 8 := (y 0).isLt; have h1 : (y 1).val < 64 := (y 1).isLt; omega⟩ (y 2))) _ _ ?_ (cover_out c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car _)).trans ?_
  · rw [ot_10]
    intro p hp
    simp only [List.mem_cons, List.not_mem_nil, or_false] at hp
    rcases hp with rfl | rfl | rfl | rfl | rfl | rfl | rfl | rfl <;> exact outPiece_row a14 h14 a15 h15 _ _ _ _
  · refine congrArg₂ (· * ·) ?_ (gats_row c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal _ k)
    refine Eq.trans ?_ (hid_row c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car b k (t.val + 1) (by omega))
    unfold hids states
    exact congrArg₂ (fun (n : ℕ) (u : Fin 8) => hid (facs c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal) (inps c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car) (hv c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 x9 hal car).1 n (ix2 u k)) (by simp only [ix3, ix2]; show (8 * t.val + b.val) / 8 + 1 = _; omega) (Fin.ext (by show (8 * t.val + b.val) % 8 = _; omega))

end Cert.Rec
-- ==== Proof.RecSpec.lean ====
module

public import proofs.«01_k».proof.Proof.RecGates

/-! # The recurrent layer as a recurrence over the arguments -/

@[expose] public section

noncomputable section

namespace Cert.RecSpec

open Idealize.ShloMosaic Idealize.ShloMosaic.TcCoe Idealize.ShloMosaic.Tactic
open Cert.KernelIdeal Cert.MlpSpec Cert.Rec

/-- Half the scale of a factor's binary logarithm. -/
def halfOf (a : EReal) : EReal :=
  Named.named (F := Ideal) (φ := .f32) κ "half_log2e" 0x3F38AA3B#32 * (Ideal.ofBits .f32 0xC1000000#32
    * (max (0 - a) 0 + Ideal.log1p (Ideal.exp (0 - FloatOps.absf (F := Ideal) (φ := .f32) a))))

variable (h : Vec Ideal S8x2048x1024 .f32) (g : Vec Ideal S4x1024 .f32) (wi : Vec Ideal S2x1024x2048 .f32) (bi : Vec Ideal S2x2048 .f32)
  (cw : Vec Ideal S2x4x1024 .f32) (cb : Vec Ideal S2x1024 .f32) (wa : Vec Ideal S2x8x128x128 .f32) (ba : Vec Ideal S2x8x128 .f32)
  (wx : Vec Ideal S2x8x128x128 .f32) (bx : Vec Ideal S2x8x128 .f32) (ap : Vec Ideal S2x1024 .f32)

/-- The input projection of the normed row at a time. -/
def projAt (b : Fin 8) (s : ℕ) (k : Fin 2048) : EReal :=
  (∑ j : Fin 1024, rms (fun j => h (ix3 b ⟨s % 2048, Nat.mod_lt _ (by decide)⟩ j)) (fun j => g (ix2 1 j)) j * wi (ix3 0 j k)) + bi (ix2 0 k)

/-- The recurrent branch with three zero rows before it. -/
def padAt (b : Fin 8) (s : ℕ) (k : Fin 1024) : EReal := if s < 3 then 0 else projAt h g wi bi b (s - 3) ⟨k.val, by omega⟩

/-- The convolution. -/
def convAt (b : Fin 8) (s : ℕ) (k : Fin 1024) : EReal :=
  cb (ix2 0 k) + padAt h g wi bi b s k * cw (ix3 0 0 k) + padAt h g wi bi b (s + 1) k * cw (ix3 0 1 k)
    + padAt h g wi bi b (s + 2) k * cw (ix3 0 2 k) + padAt h g wi bi b (s + 3) k * cw (ix3 0 3 k)

/-- A gate's argument halved: column `e` of block `n`. -/
def gateAt (w : Vec Ideal S2x8x128x128 .f32) (bb : Vec Ideal S2x8x128 .f32) (b : Fin 8) (s : ℕ) (n : Fin 8) (e : Fin 128) : EReal :=
  (∑ d : Fin 128, convAt h g wi bi cw cb b s ⟨128 * n.val + d.val, by omega⟩ * (Ideal.ofBits .f32 0x3F000000#32 * w (ix4 0 n d e)))
    + Ideal.ofBits .f32 0x3F000000#32 * bb (ix3 0 n e)

/-- The factor of a state, -/
def facAt (b : Fin 8) (s : ℕ) (k : Fin 1024) : EReal :=
  facOf (halfOf (ap (ix2 0 k))) (gateAt h g wi bi cw cb wa ba b s ⟨k.val / 128, by omega⟩ ⟨k.val % 128, Nat.mod_lt _ (by decide)⟩)

/-- what is added to it, -/
def inpAt (b : Fin 8) (s : ℕ) (k : Fin 1024) : EReal :=
  inpOf (facAt h g wi bi cw cb wa ba ap b s k) (gateAt h g wi bi cw cb wx bx b s ⟨k.val / 128, by omega⟩ ⟨k.val % 128, Nat.mod_lt _ (by decide)⟩)
    (convAt h g wi bi cw cb b s k)

/-- and the state before time `s`. -/
def stateAt (b : Fin 8) (k : Fin 1024) : ℕ → EReal
  | 0 => 0
  | s + 1 => facAt h g wi bi cw cb wa ba ap b s k * stateAt b k s + inpAt h g wi bi cw cb wa ba wx bx ap b s k

/-- The layer's result. -/
def out : Vec Ideal S8x2048x1024 .bf16 := fun i =>
  stateAt h g wi bi cw cb wa ba wx bx ap (i 0) (i 2) ((i 1).val + 1)
    * geluOf (projAt h g wi bi (i 0) (i 1).val ⟨1024 + (i 2).val, by have : (i 2).val < 1024 := (i 2).isLt; omega⟩)

end Cert.RecSpec
-- ==== Proof.RecGrid.lean ====
module

public import proofs.«01_k».proof.Proof.RecStep
public import proofs.«01_k».proof.Proof.RecFrame
public import proofs.«01_k».proof.Proof.RecSpec
public import Idealize.ShloMosaic.Lib.Pipeline.ValueKit

/-! # The recurrent layer: what the grid's steps read -/

@[expose] public section

set_option maxRecDepth 16384

noncomputable section

namespace Cert.Rec

open Idealize.ShloMosaic Idealize.ShloMosaic.TcCoe Idealize.ShloMosaic.Tactic
open Cert.KernelIdeal Cert.KernelIdeal.Gen Cert.MlpSpec Cert.RecSpec

/-- The windows' blocks: the rows move with the step, everything else stays. -/
theorem idx : ∀ t : Fin cfg0.N, win0_0.index t = ![0, (t : Nat), 0] ∧ win0_1.index t = ![0, 0] ∧ win0_2.index t = ![0, 0, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0] ∧ win0_9.index t = ![0, (t : Nat), 0] :=
  (by decide +kernel : ∀ t : Fin grid0.N, _)

variable (m : (ℓ : Loc nD τ sig) → Buf (Elt Ideal) ℓ)

theorem blk_h (c : Dev nD) (t : Fin cfg0.N) (b : Fin 8) (q : Fin 64) (k : Fin 1024) :
    iblk m c 0 t (ix3 b q k) = m ((c : Thread nD τ).loc main_arg0) (ix3 b ⟨64 * t.val + q.val, by have : t.val < 32 := t.isLt; omega⟩ k) := by
  blk_ext! [iblk, idx t]

theorem blk_g (c : Dev nD) (t : Fin cfg0.N) (k : Fin 1024) :
    iblk m c 1 t (ix2 0 k) = m ((c : Thread nD τ).loc main_arg1) (ix2 1 k) := by
  blk_ext! [iblk, idx t]

theorem blk_w (c : Dev nD) (t : Fin cfg0.N) (j : Fin 1024) (k : Fin 2048) :
    iblk m c 2 t (ix3 0 j k) = m ((c : Thread nD τ).loc main_arg2) (ix3 0 j k) := by
  blk_ext! [iblk, idx t]

theorem blk_b (c : Dev nD) (t : Fin cfg0.N) (k : Fin 2048) :
    iblk m c 3 t (ix2 0 k) = m ((c : Thread nD τ).loc main_arg3) (ix2 0 k) := by
  blk_ext! [iblk, idx t]

theorem blk_cw (c : Dev nD) (t : Fin cfg0.N) (i : Fin 4) (k : Fin 1024) :
    iblk m c 4 t (ix2 i k) = m ((c : Thread nD τ).loc main_arg4) (ix3 0 i k) := by
  blk_ext! [iblk, idx t]

theorem blk_cb (c : Dev nD) (t : Fin cfg0.N) (k : Fin 1024) :
    iblk m c 5 t (ix2 0 k) = m ((c : Thread nD τ).loc main_arg5) (ix2 0 k) := by
  blk_ext! [iblk, idx t]

theorem blk_ap (c : Dev nD) (t : Fin cfg0.N) (k : Fin 1024) :
    iblk m c 8 t (ix2 0 k) = m ((c : Thread nD τ).loc main_arg10) (ix2 0 k) := by
  blk_ext! [iblk, idx t]

theorem emb_wg (t : Fin cfg0.N) (n : Fin 8) (d : Fin 128) (e : Fin 256) : (win0_6.blk t).view.emb (ix3 n d e) = ix3 n d e := by
  blk_ext [idx t]

theorem emb_bg (t : Fin cfg0.N) (n : Fin 8) (e : Fin 256) : (win0_7.blk t).view.emb (ix3 n 0 e) = ix3 n 0 e := by
  blk_ext [idx t]

theorem blk_wg (c : Dev nD) (t : Fin cfg0.N) (n : Fin 8) (d : Fin 128) (e : Fin 256) : iblk m c 6 t (ix3 n d e)
    = Ideal.ofBits .f32 0x3F000000#32 * (if h : e.val < 128 then m ((c : Thread nD τ).loc main_arg6) (ix4 0 n d ⟨e.val, h⟩) else m ((c : Thread nD τ).loc main_arg8) (ix4 0 n d ⟨e.val - 128, by omega⟩)) := by
  blk_simp [iblk]
  entry_read
  rw [emb_wg]
  pointwise

theorem blk_bg (c : Dev nD) (t : Fin cfg0.N) (n : Fin 8) (e : Fin 256) : iblk m c 7 t (ix3 n 0 e)
    = Ideal.ofBits .f32 0x3F000000#32 * (if h : e.val < 128 then m ((c : Thread nD τ).loc main_arg7) (ix3 0 n ⟨e.val, h⟩) else m ((c : Thread nD τ).loc main_arg9) (ix3 0 n ⟨e.val - 128, by omega⟩)) := by
  blk_simp [iblk]
  entry_read
  rw [emb_bg]
  pointwise

theorem flat_apply (x1 : Vec Ideal S8x64x1024 .f32) (r : Fin 512) (k : Fin 1024) : flat x1 (ix2 r k) = x1 (ix3 ⟨r.val / 64, by omega⟩ ⟨r.val % 64, Nat.mod_lt _ (by decide)⟩ k) := by
  unfold flat
  pointwise [k0_pay7]

theorem half_apply (x9 : Vec Ideal S1x1024 .f32) (k : Fin 1024) : half x9 (ix2 0 k) = halfOf (x9 (ix2 0 k)) := by
  unfold half
  pointwise [k0_pay8]
  rfl

/-! ## The rows of a step, from the arguments -/

variable (c : Dev nD) (t : Fin cfg0.N) (hal : Vec Ideal S24x1024 .f32) (car : Vec Ideal S8x1024 .f32)

/-- The row of a sequence and a step, taken apart again. -/
theorem swap_arith (r : ℕ) (hr : r < 512) : (64 * (r % 8) + r / 8) % 512 / 64 = r % 8 ∧ (64 * (r % 8) + r / 8) % 512 % 64 = r / 8 := by
  have e1 : r % 8 < 8 := Nat.mod_lt _ (by decide)
  have e2 : r / 8 < 64 := by omega
  generalize r % 8 = b at *
  generalize r / 8 = a at *
  omega

/-- Equal sequences and times. -/
theorem at_congr {α : Type} (f : Fin 8 → ℕ → α) {b b' : Fin 8} {s s' : ℕ} (hb : b.val = b'.val) (hs : s = s') : f b s = f b' s' := by
  obtain rfl := Fin.ext hb
  rw [hs]

theorem inpOf_congr {a a' z z' x x' : EReal} (h1 : a = a') (h2 : z = z') (h3 : x = x') : inpOf a z x = inpOf a' z' x' := by rw [h1, h2, h3]

theorem projRow_at (r : ℕ) (hr : r < 512) (k : Fin 2048) : projRow (iblk m c 0 t) (iblk m c 1 t) (iblk m c 2 t) (iblk m c 3 t) r k
    = projAt (m ((c : Thread nD τ).loc main_arg0)) (m ((c : Thread nD τ).loc main_arg1)) (m ((c : Thread nD τ).loc main_arg2)) (m ((c : Thread nD τ).loc main_arg3)) ⟨r % 8, Nat.mod_lt _ (by decide)⟩ (64 * t.val + r / 8) k := by
  have ht : t.val < 32 := t.isLt
  unfold projRow projAt normedRow
  refine congrArg₂ (· + ·) (Finset.sum_congr rfl fun j _ => congrArg₂ (· * ·) (congrArg₂ (fun x y => rms x y j) ?_ ?_) (blk_w m c t j k)) (blk_b m c t k)
  · funext j
    rw [flat_apply]
    refine (blk_h m c t _ _ j).trans (congrArg (m ((c : Thread nD τ).loc main_arg0)) (ix3_ext ?_ ?_ rfl))
    · exact (swap_arith r hr).1
    · simp only
      rw [(swap_arith r hr).2]
      omega
  · funext j
    exact blk_g m c t j

/-- What the rows handed to step `t` should be. -/
def HalOk : Prop := ∀ (n : Fin 24) (k : Fin 1024), hal (ix2 n k) = padAt (m ((c : Thread nD τ).loc main_arg0)) (m ((c : Thread nD τ).loc main_arg1)) (m ((c : Thread nD τ).loc main_arg2)) (m ((c : Thread nD τ).loc main_arg3)) ⟨n.val % 8, Nat.mod_lt _ (by decide)⟩ (64 * t.val + n.val / 8) k

variable (hh : HalOk m c t hal)

include hh

theorem xRow_at (n : ℕ) (hn : n < 536) (k : Fin 1024) : xRow (iblk m c 0 t) (iblk m c 1 t) (iblk m c 2 t) (iblk m c 3 t) hal n k
    = padAt (m ((c : Thread nD τ).loc main_arg0)) (m ((c : Thread nD τ).loc main_arg1)) (m ((c : Thread nD τ).loc main_arg2)) (m ((c : Thread nD τ).loc main_arg3)) ⟨n % 8, Nat.mod_lt _ (by decide)⟩ (64 * t.val + n / 8) k := by
  unfold xRow
  split
  · rename_i h
    exact hh ⟨n, h⟩ k
  · rename_i h
    unfold padAt
    rw [if_neg (by omega), projRow_at m c t (n - 24) (by omega)]
    exact at_congr (fun b s => projAt (m ((c : Thread nD τ).loc main_arg0)) (m ((c : Thread nD τ).loc main_arg1)) (m ((c : Thread nD τ).loc main_arg2)) (m ((c : Thread nD τ).loc main_arg3)) b s _) (by simp only; omega) (by omega)

theorem xcRow_at (r : ℕ) (hr : r < 512) (k : Fin 1024) : xcRow (iblk m c 0 t) (iblk m c 1 t) (iblk m c 2 t) (iblk m c 3 t) (iblk m c 4 t) (iblk m c 5 t) hal r k
    = convAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨r % 8, Nat.mod_lt _ (by decide)⟩ (64 * t.val + r / 8) k := by
  have e : ∀ i : ℕ, i ≤ 3 → xRow (iblk m c 0 t) (iblk m c 1 t) (iblk m c 2 t) (iblk m c 3 t) hal (r + 8 * i) k = padAt (m ((c : Thread nD τ).loc main_arg0)) (m ((c : Thread nD τ).loc main_arg1)) (m ((c : Thread nD τ).loc main_arg2)) (m ((c : Thread nD τ).loc main_arg3)) ⟨r % 8, Nat.mod_lt _ (by decide)⟩ (64 * t.val + r / 8 + i) k := fun i hi => by
    rw [xRow_at m c t hal hh (r + 8 * i) (by omega)]
    exact at_congr (fun b s => padAt (m ((c : Thread nD τ).loc main_arg0)) (m ((c : Thread nD τ).loc main_arg1)) (m ((c : Thread nD τ).loc main_arg2)) (m ((c : Thread nD τ).loc main_arg3)) b s k) (by simp only; omega) (by omega)
  unfold xcRow convAt
  exact congrArg₂ (· + ·) (congrArg₂ (· + ·) (congrArg₂ (· + ·) (congrArg₂ (· + ·) (blk_cb m c t k) (congrArg₂ (· * ·) (e 0 (by omega)) (blk_cw m c t 0 k)))
    (congrArg₂ (· * ·) (e 1 (by omega)) (blk_cw m c t 1 k))) (congrArg₂ (· * ·) (e 2 (by omega)) (blk_cw m c t 2 k))) (congrArg₂ (· * ·) (e 3 (by omega)) (blk_cw m c t 3 k))

theorem zRow_lo (r : ℕ) (hr : r < 512) (n : Fin 8) (e : Fin 128) : zRow (iblk m c 0 t) (iblk m c 1 t) (iblk m c 2 t) (iblk m c 3 t) (iblk m c 4 t) (iblk m c 5 t) (iblk m c 6 t) (iblk m c 7 t) hal r n ⟨e.val, by omega⟩
    = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨r % 8, Nat.mod_lt _ (by decide)⟩ (64 * t.val + r / 8) n e := by
  unfold zRow gateAt
  refine congrArg₂ (· + ·) (Finset.sum_congr rfl fun d _ => congrArg₂ (· * ·) (xcRow_at m c t hal hh r hr _) ((blk_wg m c t n d _).trans ?_)) ((blk_bg m c t n _).trans ?_) <;>
    rw [dif_pos e.isLt]

theorem zRow_hi (r : ℕ) (hr : r < 512) (n : Fin 8) (e : Fin 128) : zRow (iblk m c 0 t) (iblk m c 1 t) (iblk m c 2 t) (iblk m c 3 t) (iblk m c 4 t) (iblk m c 5 t) (iblk m c 6 t) (iblk m c 7 t) hal r n ⟨128 + e.val, by omega⟩
    = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) ⟨r % 8, Nat.mod_lt _ (by decide)⟩ (64 * t.val + r / 8) n e := by
  unfold zRow gateAt
  refine congrArg₂ (· + ·) (Finset.sum_congr rfl fun d _ => congrArg₂ (· * ·) (xcRow_at m c t hal hh r hr _) ((blk_wg m c t n d _).trans ?_)) ((blk_bg m c t n _).trans ?_) <;>
    rw [dif_neg (by simp)] <;> simp

theorem facRow_at (r : ℕ) (hr : r < 512) (k : Fin 1024) : facRow (iblk m c 0 t) (iblk m c 1 t) (iblk m c 2 t) (iblk m c 3 t) (iblk m c 4 t) (iblk m c 5 t) (iblk m c 6 t) (iblk m c 7 t) (iblk m c 8 t) hal r k
    = facAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) ⟨r % 8, Nat.mod_lt _ (by decide)⟩ (64 * t.val + r / 8) k := by
  unfold facRow facAt
  refine congrArg₂ facOf ((half_apply _ k).trans (congrArg halfOf (blk_ap m c t k))) ?_
  exact zRow_lo m c t hal hh r hr _ ⟨k.val % 128, Nat.mod_lt _ (by decide)⟩

theorem inpRow_at (r : ℕ) (hr : r < 512) (k : Fin 1024) : inpRow (iblk m c 0 t) (iblk m c 1 t) (iblk m c 2 t) (iblk m c 3 t) (iblk m c 4 t) (iblk m c 5 t) (iblk m c 6 t) (iblk m c 7 t) (iblk m c 8 t) hal r k
    = inpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨r % 8, Nat.mod_lt _ (by decide)⟩ (64 * t.val + r / 8) k := by
  unfold inpRow inpAt
  exact inpOf_congr (facRow_at m c t hal hh r hr k) (zRow_hi m c t hal hh r hr _ ⟨k.val % 128, Nat.mod_lt _ (by decide)⟩) (xcRow_at m c t hal hh r hr k)

variable (hc : ∀ (b : Fin 8) (k : Fin 1024), car (ix2 b k) = stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b k (64 * t.val))

include hc

theorem hRow_at (b : Fin 8) (k : Fin 1024) (n : ℕ) (hn : n ≤ 64) : hRow (iblk m c 0 t) (iblk m c 1 t) (iblk m c 2 t) (iblk m c 3 t) (iblk m c 4 t) (iblk m c 5 t) (iblk m c 6 t) (iblk m c 7 t) (iblk m c 8 t) hal car b k n = stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b k (64 * t.val + n) := by
  induction n with
  | zero => exact hc b k
  | succ n ih =>
    have e : ∀ p : (8 * n + b.val) % 8 < 8, (⟨(8 * n + b.val) % 8, p⟩ : Fin 8) = b := fun p => Fin.ext (by simp only; omega)
    have e' : (8 * n + b.val) / 8 = n := by omega
    rw [hRow, ih (by omega), facRow_at m c t hal hh _ (by omega), inpRow_at m c t hal hh _ (by omega), e, e']
    rfl

omit hc in
theorem halAt_ok (hl : t.val + 1 < cfg0.N) : HalOk m c ⟨t.val + 1, hl⟩ (halAt m c t hal car) := by
  intro n k
  unfold halAt padAt
  rw [halN_row, projRow_at m c t _ (by omega), if_neg (by simp only; omega)]
  exact at_congr (fun b s => projAt (m ((c : Thread nD τ).loc main_arg0)) (m ((c : Thread nD τ).loc main_arg1)) (m ((c : Thread nD τ).loc main_arg2)) (m ((c : Thread nD τ).loc main_arg3)) b s _) (by simp only; omega) (by simp only; omega)

theorem carAt_ok (b : Fin 8) (k : Fin 1024) : carAt m c t hal car (ix2 b k) = stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b k (64 * (t.val + 1)) := by
  unfold carAt
  rw [carN_row, hRow_at m c t hal car hh hc b k 64 (by decide)]
  rfl

theorem outAt_ok (b : Fin 8) (q : Fin 64) (k : Fin 1024) (hs : 64 * t.val + q.val < 2048) :
    outAt m c t hal car (ix3 b q k) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 b ⟨64 * t.val + q.val, hs⟩ k) := by
  unfold outAt out
  rw [outN_row, hRow_at m c t hal car hh hc b k (q.val + 1) (by omega), projRow_at m c t _ (by omega)]
  have e : ∀ p : (8 * q.val + b.val) % 8 < 8, (⟨(8 * q.val + b.val) % 8, p⟩ : Fin 8) = b := fun p => Fin.ext (by simp only; omega)
  have e' : (8 * q.val + b.val) / 8 = q.val := by omega
  rw [e, e']
  rfl

omit hh hc

theorem carried_hal (n : ℕ) (hn : n + 1 < cfg0.N) : (carriedAt m c (n + 1) (Nat.le_of_lt hn)).1
    = halAt m c ⟨n, by omega⟩ (carriedAt m c n (by omega)).1 (carriedAt m c n (by omega)).2 := by
  rw [carriedAt]

theorem carried_car (n : ℕ) (hn : n + 1 < cfg0.N) : (carriedAt m c (n + 1) (Nat.le_of_lt hn)).2
    = carAt m c ⟨n, by omega⟩ (carriedAt m c n (by omega)).1 (carriedAt m c n (by omega)).2 := by
  rw [carriedAt]

/-- What is handed to each step. -/
theorem carried_ok (n : ℕ) (hn : n < cfg0.N) : HalOk m c ⟨n, hn⟩ (carriedAt m c n (Nat.le_of_lt hn)).1
    ∧ ∀ (b : Fin 8) (k : Fin 1024), (carriedAt m c n (Nat.le_of_lt hn)).2 (ix2 b k) = stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b k (64 * n) := by
  induction n with
  | zero =>
    refine ⟨fun r k => ?_, fun b k => ?_⟩
    · unfold padAt
      rw [if_pos (by simp only; omega)]
      rw [carriedAt]
      pointwise [k0_pay2]
    · rw [carriedAt]
      pointwise [k0_pay3]
      rfl
  | succ n ih =>
    obtain ⟨ih1, ih2⟩ := ih (by omega)
    exact ⟨fun r k => (congrFun (carried_hal m c n hn) (ix2 r k)).trans (halAt_ok m c ⟨n, by omega⟩ _ _ ih1 hn r k),
      fun b k => (congrFun (carried_car m c n hn) (ix2 b k)).trans (carAt_ok m c ⟨n, by omega⟩ _ _ ih1 ih2 b k)⟩

/-- The result array after the run. -/
theorem final : (dats m 0 c).arrAt 9 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 9 _ (by decide +kernel) fun t hf y => ?_
  blk_simp
  rw [after_9]
  idx_vars y
  have hs : 64 * t.val + y1.val < 2048 := by have : t.val < 32 := t.isLt; omega
  have ht : ((View.whole main_v30).slice (win0_9.rect t)).emb (ix3 y0 y1 y2) = ix3 y0 (⟨64 * t.val + y1.val, hs⟩ : Fin 2048) y2 := by
    blk_ext [idx t]
  rw [ht]
  obtain ⟨i1, i2⟩ := carried_ok m c t.val t.isLt
  exact outAt_ok m c t _ _ i1 i2 y0 y1 y2 hs

end Cert.Rec
-- ==== Proof.RecScalar.lean ====
module

public import proofs.«01_k».proof.Proof.RecSpec

/-! # The gates of the recurrent layer as numbers: the kernel's forms and the reference's -/

@[expose] public section

noncomputable section

namespace Cert.RecScalar

open Idealize.ShloMosaic
open Cert.KernelIdeal Cert.Rec Cert.RecSpec

theorem half_eq : Ideal.ofBits .f32 0x3F000000#32 = ((1 / 2 : ℝ) : EReal) := by
  simp [Ideal.ofBits, Ideal.ieee, -EReal.coe_mul]
  norm_num

theorem eight_eq : Ideal.ofBits .f32 0xC1000000#32 = ((-8 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-- The logistic gate of an argument, and the hyperbolic tangent of its half. -/
theorem gate_real (z : EReal) : ∃ σ : ℝ, 0 ≤ σ ∧ Ideal.div 1 (1 + Ideal.exp (-z)) = (σ : EReal)
    ∧ Ideal.tanh (Ideal.ofBits .f32 0x3F000000#32 * z) = ((2 * σ - 1 : ℝ) : EReal) := by
  rw [half_eq]
  show ∃ σ : ℝ, 0 ≤ σ ∧ Ideal.logistic z = (σ : EReal) ∧ _
  induction z using EReal.rec with
  | bot =>
    refine ⟨0, le_refl _, by simp, ?_⟩
    rw [EReal.coe_mul_bot_of_pos (by norm_num)]
    simp
  | top =>
    refine ⟨1, zero_le_one, by simp, ?_⟩
    rw [EReal.coe_mul_top_of_pos (by norm_num), Ideal.tanh_top]
    show ((1 : ℝ) : EReal) = _
    norm_num
  | coe r =>
    refine ⟨(1 + Real.exp (-r))⁻¹, by positivity, by simp, ?_⟩
    rw [← EReal.coe_mul, Ideal.tanh_coe]
    congr 1
    have e : Real.exp (-r) = Real.exp (-(1 / 2 * r)) * Real.exp (-(1 / 2 * r)) := by
      rw [← Real.exp_add]
      congr 1
      ring
    rw [e, Real.tanh_eq_sinh_div_cosh, Real.sinh_eq, Real.cosh_eq, Real.exp_neg]
    have hp : 0 < Real.exp (1 / 2 * r) := Real.exp_pos _
    field_simp
    ring

theorem max_coe (x y : ℝ) : max (x : EReal) (y : EReal) = ((max x y : ℝ) : EReal) :=
  (Monotone.map_max (f := Real.toEReal) fun _ _ h => EReal.coe_le_coe_iff.2 h).symm

/-- The softplus of a decay parameter negated. -/
theorem soft_real (a : EReal) (ha : a ≠ ⊥) : ∃ p : ℝ, 0 ≤ p ∧ max (-a) 0 + Ideal.log1p (Ideal.exp (-max a (-a))) = (p : EReal) := by
  induction a using EReal.rec with
  | bot => exact absurd rfl ha
  | top =>
    refine ⟨0, le_refl _, ?_⟩
    have e : Ideal.log1p 0 = 0 := by
      unfold Ideal.log1p
      rw [add_zero]
      show (if (1 : ℝ) ≤ 0 then (⊥ : EReal) else ((Real.log 1 : ℝ) : EReal)) = 0
      rw [if_neg (by norm_num), Real.log_one, EReal.coe_zero]
    simp [e]
  | coe r =>
    have h1 : -max (r : EReal) (-(r : EReal)) = ((-max r (-r) : ℝ) : EReal) := by
      rw [← EReal.coe_neg, max_coe, ← EReal.coe_neg]
    have h2 : max (-(r : EReal)) 0 = ((max (-r) 0 : ℝ) : EReal) := by
      rw [← max_coe, EReal.coe_neg, EReal.coe_zero]
    have h3 : Ideal.log1p ((Real.exp (-max r (-r)) : ℝ) : EReal) = ((Real.log (1 + Real.exp (-max r (-r))) : ℝ) : EReal) := by
      unfold Ideal.log1p
      rw [← EReal.coe_one, ← EReal.coe_add]
      have hp := Real.exp_pos (-max r (-r))
      show (if 1 + Real.exp (-max r (-r)) ≤ 0 then (⊥ : EReal) else _) = _
      rw [if_neg (by linarith)]
    refine ⟨max (-r) 0 + Real.log (1 + Real.exp (-max r (-r))), ?_, ?_⟩
    · have hp := Real.exp_pos (-max r (-r))
      exact add_nonneg (le_max_right _ _) (Real.log_nonneg (by linarith))
    · rw [h1, h2, Ideal.exp_coe, h3, EReal.coe_add]

/-- The reference's softplus, -/
def softR (a : EReal) : EReal :=
  if -a ≠ -a then -a else max (-a) 0 + Ideal.log1p (Ideal.exp (-FloatOps.absf (F := Ideal) (φ := .f32) (-a)))

/-- its logarithm of a factor, -/
def logR (a z : EReal) : EReal := Ideal.ofBits .f32 0xC1000000#32 * Ideal.div 1 (1 + Ideal.exp (-z)) * softR a

/-- and what it adds to a state. -/
def addR (l z x : EReal) : EReal := Ideal.sqrt (-(Ideal.exp (Ideal.ofBits .f32 0x40000000#32 * l) - 1)) * (Ideal.div 1 (1 + Ideal.exp (-z)) * x)

theorem softR_eq (a : EReal) : softR a = max (-a) 0 + Ideal.log1p (Ideal.exp (-max a (-a))) := by
  unfold softR
  rw [if_neg (by simp)]
  have e : FloatOps.absf (F := Ideal) (φ := .f32) (-a) = max a (-a) := by
    show max (-a) (- -a) = max a (-a)
    rw [neg_neg, max_comm]
  rw [e]

theorem halfOf_eq (a : EReal) : halfOf a = (((1 / 2) * (Real.log 2)⁻¹ : ℝ) : EReal) * (((-8 : ℝ) : EReal) * (max (-a) 0 + Ideal.log1p (Ideal.exp (-max a (-a))))) := by
  unfold halfOf
  rw [eight_eq, zero_sub, zero_sub]
  rfl

/-- The factor: the kernel's binary power is the reference's exponential. -/
theorem fac_real (a z : EReal) (ha : a ≠ ⊥) : ∃ l : ℝ, l ≤ 0 ∧ logR a z = (l : EReal)
    ∧ facOf (halfOf a) (Ideal.ofBits .f32 0x3F000000#32 * z) = ((Real.exp l : ℝ) : EReal) := by
  obtain ⟨σ, hσ, e1, e2⟩ := gate_real z
  obtain ⟨p, hp, e3⟩ := soft_real a ha
  refine ⟨-8 * σ * p, by nlinarith [mul_nonneg hσ hp], ?_, ?_⟩
  · unfold logR
    rw [eight_eq, e1, softR_eq, e3, ← EReal.coe_mul, ← EReal.coe_mul]
  · unfold facOf
    rw [halfOf_eq, e2, e3, ← EReal.coe_mul, ← EReal.coe_mul, ← EReal.coe_mul, ← EReal.coe_add]
    show ((Real.rpow 2 _ : ℝ) : EReal) = _
    congr 1
    refine (Real.rpow_def_of_pos two_pos _).trans ?_
    congr 1
    have hl : Real.log 2 ≠ 0 := (Real.log_pos one_lt_two).ne'
    field_simp
    ring

/-- What is added: the kernel's root by its reciprocal is the reference's root. -/
theorem inp_real (l : ℝ) (hl : l ≤ 0) (z x : EReal) :
    inpOf ((Real.exp l : ℝ) : EReal) (Ideal.ofBits .f32 0x3F000000#32 * z) x = addR (l : EReal) z x := by
  obtain ⟨σ, hσ, e1, e2⟩ := gate_real z
  unfold inpOf addR
  rw [e2, e1, half_eq, two_eq, ← EReal.coe_mul, ← EReal.coe_mul, ← EReal.coe_mul, ← EReal.coe_add, Ideal.exp_coe]
  refine congrArg₂ (· * ·) ?_ (congrArg (fun y : ℝ => (y : EReal) * x) (by ring))
  have hg : (Named.named (F := Ideal) (φ := .f32) κ "guard" 0x0DA24260#32 : EReal) = ⊥ := rfl
  rw [hg, max_bot_right, ← EReal.coe_one, ← EReal.coe_sub, ← EReal.coe_sub, ← EReal.coe_neg]
  have e3 : -(Real.exp (2 * l) - 1) = 1 - Real.exp l * Real.exp l := by
    rw [two_mul, Real.exp_add]
    ring
  rw [e3]
  have hw : 0 ≤ 1 - Real.exp l * Real.exp l := by
    have h1 : Real.exp l ≤ 1 := Real.exp_le_one_iff.2 hl
    have h0 := Real.exp_pos l
    nlinarith
  generalize 1 - Real.exp l * Real.exp l = w at hw
  show (w : EReal) * (if w < 0 then ⊥ else if w = 0 then ⊤ else (((Real.sqrt w)⁻¹ : ℝ) : EReal)) = (if w < 0 then ⊥ else ((Real.sqrt w : ℝ) : EReal))
  rw [if_neg (not_lt.2 hw), if_neg (not_lt.2 hw)]
  split
  · rename_i h0
    subst h0
    simp
  · rw [← EReal.coe_mul]
    congr 1
    rw [← div_eq_mul_inv, Real.div_sqrt]

/-- Half of a sum. -/
theorem half_add (x y : EReal) : Ideal.ofBits .f32 0x3F000000#32 * (x + y) = Ideal.ofBits .f32 0x3F000000#32 * x + Ideal.ofBits .f32 0x3F000000#32 * y := by
  rw [half_eq]
  exact EReal.left_distrib_of_nonneg_of_ne_top (by exact_mod_cast (by norm_num : (0:ℝ) ≤ 1 / 2)) (EReal.coe_ne_top _) x y

theorem half_sum {n : ℕ} (f : Fin n → EReal) : Ideal.ofBits .f32 0x3F000000#32 * (∑ i, f i) = ∑ i, Ideal.ofBits .f32 0x3F000000#32 * f i := by
  induction n with
  | zero => simp
  | succ n ih => rw [Fin.sum_univ_succ, half_add, ih, Fin.sum_univ_succ]

end Cert.RecScalar
-- ==== Proof.RecRef.lean ====
module

public import proofs.«01_k».proof.Proof.RecScalar
public import proofs.«01_k».proof.Proof.Gen.ReferenceIdeal.StepRun
public import Idealize.ShloMosaic.Lib.Pointwise
public import Idealize.ShloMosaic.Lib.DynamicIndex

/-! # The recurrent layer's reference: what it computes before its loop, and the loop -/

@[expose] public section

set_option maxRecDepth 16384

noncomputable section

namespace Cert.RecRef

open Idealize.ShloMosaic Idealize.ShloMosaic.TcCoe Idealize.ShloMosaic.Tactic
open Cert.ReferenceIdeal Cert.ReferenceIdeal.Gen Cert.ReferenceIdeal.Step Cert.MlpSpec Cert.RecSpec Cert.Rec Cert.RecScalar

section

variable (h : Vec Ideal S8x2048x1024 .f32) (g : Vec Ideal S4x1024 .f32) (wi : Vec Ideal S2x1024x2048 .f32) (bi : Vec Ideal S2x2048 .f32)
  (cw : Vec Ideal S2x4x1024 .f32) (cb : Vec Ideal S2x1024 .f32) (wa : Vec Ideal S2x8x128x128 .f32) (ba : Vec Ideal S2x8x128 .f32)
  (wx : Vec Ideal S2x8x128x128 .f32) (bx : Vec Ideal S2x8x128 .f32) (ap : Vec Ideal S2x1024 .f32)

theorem norm_apply (b : Fin 8) (s : Fin 2048) (k : Fin 1024) : A_main_v14 h g wi bi cw cb wa ba wx bx ap (ix3 b s k) = rms (fun j => h (ix3 b s j)) (fun j => g (ix2 1 j)) k := by
  pointwise [A_main_v14, A_main_v13, A_main_v12, A_main_v11, A_main_v10, A_main_v9, A_main_v8, A_main_v6, A_main_v4, A_main_v3, A_main_v2, A_main_v1, A_main_v0, K_main_cst, K_main_cst_0, K_main_cst_1, K_main_v5, K_main_v7]
  rfl

theorem proj_apply (b : Fin 8) (s : Fin 2048) (k : Fin 2048) : A_main_v22 h g wi bi cw cb wa ba wx bx ap (ix3 b s k) = projAt h g wi bi b s.val k := by
  pointwise [A_main_v22, A_main_v21, A_main_v20, A_main_v19, A_main_v18, A_main_v17, A_main_v16, A_main_v15, norm_apply]
  unfold projAt
  have e : ∀ p : s.val % 2048 < 2048, (⟨s.val % 2048, p⟩ : Fin 2048) = s := fun p => Fin.ext (Nat.mod_eq_of_lt s.isLt)
  simp only [e]

theorem gate_apply (b : Fin 8) (s : Fin 2048) (k : Fin 1024) : A_main_v37 h g wi bi cw cb wa ba wx bx ap (ix3 b s k) = geluOf (projAt h g wi bi b s.val ⟨1024 + k.val, by omega⟩) := by
  have e : A_main_v24 h g wi bi cw cb wa ba wx bx ap (ix3 b s k) = projAt h g wi bi b s.val ⟨1024 + k.val, by omega⟩ := by
    pointwise [A_main_v24, proj_apply]
  generalize projAt h g wi bi b s.val ⟨1024 + k.val, by omega⟩ = p at *
  pointwise [A_main_v37, A_main_v36, A_main_v34, A_main_v32, A_main_v31, A_main_v29, A_main_v28, A_main_v26, A_main_v25, K_main_cst_2, K_main_v27, K_main_cst_3, K_main_v30, K_main_cst_4, K_main_v33, K_main_cst_5, K_main_v35, e]
  unfold geluOf
  rw [mul_comm (p * p) p]

theorem pad_apply (b : Fin 8) (s : Fin 2051) (k : Fin 1024) : A_main_v38 h g wi bi cw cb wa ba wx bx ap (ix3 b s k) = padAt h g wi bi b s.val k := by
  pointwise [A_main_v38, A_main_v23, proj_apply, K_main_call0_v0, K_main_c]
  unfold padAt
  by_cases hs : s.val < 3
  · rw [dif_neg (by omega), if_pos hs]
    show (((0#32 : BitVec 32).toInt : ℝ) : EReal) = 0
    simp
  · rw [dif_pos (by omega), if_neg hs]

theorem conv_apply (b : Fin 8) (s : Fin 2048) (k : Fin 1024) : A_main_v70 h g wi bi cw cb wa ba wx bx ap (ix3 b s k) = convAt h g wi bi cw cb b s.val k := by
  pointwise [A_main_v70, A_main_v69, A_main_v68, A_main_v67, A_main_v66, A_main_v65, A_main_v64, A_main_v63, A_main_v62, A_main_v61, A_main_v60, A_main_v59, A_main_v58, A_main_v57, A_main_v56, A_main_v55, A_main_v54, A_main_v53, A_main_v52, A_main_v51, A_main_v50, A_main_v49, A_main_v48, A_main_v47, A_main_v46, A_main_v45, A_main_v44, A_main_v43, A_main_v42, A_main_v41, A_main_v40, A_main_v39, Cert.RecRef.pad_apply]
  unfold convAt
  rw [Nat.add_comm 1 s.val, Nat.add_comm 2 s.val, Nat.add_comm 3 s.val]

/-- A gate's argument, whose half the kernel takes. -/
def gateR (w : Vec Ideal S2x8x128x128 .f32) (bb : Vec Ideal S2x8x128 .f32) (b : Fin 8) (s : ℕ) (n : Fin 8) (e : Fin 128) : EReal :=
  (∑ d : Fin 128, w (ix4 0 n d e) * convAt h g wi bi cw cb b s ⟨n.val * 128 + d.val, by omega⟩) + bb (ix3 0 n e)

theorem gateAt_eq (w : Vec Ideal S2x8x128x128 .f32) (bb : Vec Ideal S2x8x128 .f32) (b : Fin 8) (s : ℕ) (n : Fin 8) (e : Fin 128) :
    gateAt h g wi bi cw cb w bb b s n e = Ideal.ofBits .f32 0x3F000000#32 * gateR h g wi bi cw cb w bb b s n e := by
  unfold gateAt gateR
  rw [half_add, half_sum]
  refine congrArg (· + _) (Finset.sum_congr rfl fun d _ => ?_)
  rw [mul_comm, mul_assoc]
  have e1 : ∀ p q, (⟨128 * n.val + d.val, p⟩ : Fin 1024) = ⟨n.val * 128 + d.val, q⟩ := fun p q => Fin.ext (by simp only; omega)
  rw [e1 _ (by omega)]

theorem zr_apply (b : Fin 8) (s : Fin 2048) (n : Fin 8) (e : Fin 128) : A_main_v80 h g wi bi cw cb wa ba wx bx ap (ix4 b s n e) = gateR h g wi bi cw cb wa ba b s.val n e := by
  pointwise [A_main_v80, A_main_v79, A_main_v78, A_main_v77, A_main_v76, A_main_v75, A_main_v74, A_main_v73, A_main_v72, A_main_v71, Cert.RecRef.conv_apply]
  rfl

theorem zi_apply (b : Fin 8) (s : Fin 2048) (n : Fin 8) (e : Fin 128) : A_main_v96 h g wi bi cw cb wa ba wx bx ap (ix4 b s n e) = gateR h g wi bi cw cb wx bx b s.val n e := by
  pointwise [A_main_v96, A_main_v95, A_main_v94, A_main_v93, A_main_v92, A_main_v91, A_main_v90, A_main_v89, A_main_v88, A_main_v71, Cert.RecRef.conv_apply]
  rfl

theorem log_apply (b : Fin 8) (s : Fin 2048) (k : Fin 1024) : A_main_v112 h g wi bi cw cb wa ba wx bx ap (ix3 b s k)
    = logR (ap (ix2 0 k)) (gateR h g wi bi cw cb wa ba b s.val ⟨k.val / 128, by omega⟩ ⟨k.val % 128, Nat.mod_lt _ (by decide)⟩) := by
  pointwise [A_main_v112, A_main_v111, A_main_v110, A_main_v109, A_main_v108, A_main_v107, A_main_v106, A_main_v105, A_main_v87, A_main_v86, A_main_v84, A_main_v82, A_main_v81, A_main_call1_v1, A_main_call1_v3, A_main_call1_v4, A_main_call1_v6, A_main_call1_v7, A_main_call1_v8, A_main_call1_v9, A_main_call1_v10, A_main_call1_v11, K_main_v104, K_main_cst_10, K_main_v83, K_main_cst_6, K_main_v85, K_main_cst_7, K_main_call1_cst, K_main_call1_v0, K_main_call1_v2, K_main_call1_v5, zr_apply]
  rfl

variable (ha : ∀ k : Fin 1024, ap (ix2 0 k) ≠ ⊥)

include ha

/-- The reference's factor is the kernel's, -/
theorem a_apply (b : Fin 8) (s : Fin 2048) (k : Fin 1024) : A_main_v113 h g wi bi cw cb wa ba wx bx ap (ix3 b s k) = facAt h g wi bi cw cb wa ba ap b s.val k := by
  pointwise [A_main_v113, Cert.RecRef.log_apply]
  unfold facAt
  rw [gateAt_eq]
  obtain ⟨l, hl, e1, e2⟩ := fac_real (ap (ix2 0 k)) (gateR h g wi bi cw cb wa ba b s.val ⟨k.val / 128, by omega⟩ ⟨k.val % 128, Nat.mod_lt _ (by decide)⟩) (ha k)
  rw [e1, e2]
  rfl

/-- and so is what is added to a state. -/
theorem b_apply (b : Fin 8) (s : Fin 2048) (k : Fin 1024) : A_main_v120 h g wi bi cw cb wa ba wx bx ap (ix3 b s k) = inpAt h g wi bi cw cb wa ba wx bx ap b s.val k := by
  have e : A_main_v120 h g wi bi cw cb wa ba wx bx ap (ix3 b s k) = addR (logR (ap (ix2 0 k)) (gateR h g wi bi cw cb wa ba b s.val ⟨k.val / 128, by omega⟩ ⟨k.val % 128, Nat.mod_lt _ (by decide)⟩))
      (gateR h g wi bi cw cb wx bx b s.val ⟨k.val / 128, by omega⟩ ⟨k.val % 128, Nat.mod_lt _ (by decide)⟩) (convAt h g wi bi cw cb b s.val k) := by
    pointwise [A_main_v120, A_main_v119, A_main_v118, A_main_v117, A_main_v116, A_main_v115, K_main_v114, K_main_cst_11, A_main_v103, A_main_v102, A_main_v100, A_main_v98, A_main_v97, K_main_v99, K_main_cst_8, K_main_v101, K_main_cst_9, Cert.RecRef.conv_apply, Cert.RecRef.log_apply, zi_apply]
    rfl
  rw [e]
  unfold inpAt facAt
  rw [gateAt_eq, gateAt_eq]
  obtain ⟨l, hl, e1, e2⟩ := fac_real (ap (ix2 0 k)) (gateR h g wi bi cw cb wa ba b s.val ⟨k.val / 128, by omega⟩ ⟨k.val % 128, Nat.mod_lt _ (by decide)⟩) (ha k)
  rw [e1, e2, inp_real l hl]

end

section

variable (j : ℕ) (hj : j < 2048) (s : State Ideal)

include hj

/-- The slice of one time. -/
theorem slice_apply (x : Vec Ideal S8x2048x1024 .f32) (start : Fin 3 → ℤ) (h0 : start 0 = 0) (h1 : start 1 = (j : ℤ)) (h2 : start 2 = 0) (b : Fin 8) (k : Fin 1024) :
    shapeCast S8x1024 (Host.dynamicSlice S8x1x1024 x start sliceFits_S8x2048x1024_S8x1x1024) shapeCasts_S8x1x1024_S8x1024 (ix2 b k) = x (ix3 b ⟨j, hj⟩ k) := by
  rw [Host.dynamicSlice_eq_extractStridedSlice S8x1x1024 x start ![0, j, 0] sliceFits_S8x2048x1024_S8x1x1024
    ⟨rfl, fun a => by fin_cases a <;> simp <;> omega⟩ (fun a => by fin_cases a <;> simp [h0, h1, h2])]
  pointwise

theorem state_apply (b : Fin 8) (k : Fin 1024) : b23 j s (ix2 b k) = s.main_v123_0 (ix3 b ⟨j, hj⟩ k) * s.main_v123_5 (ix2 b k) + s.main_v123_1 (ix3 b ⟨j, hj⟩ k) := by
  have e1 : b11 j s (ix2 b k) = s.main_v123_0 (ix3 b ⟨j, hj⟩ k) := by
    unfold b11 b10
    exact slice_apply j hj _ _ rfl (toInt_wrap_ofNat j (by omega)) rfl b k
  have e2 : b22 j s (ix2 b k) = s.main_v123_1 (ix3 b ⟨j, hj⟩ k) := by
    unfold b22 b21
    exact slice_apply j hj _ _ rfl (toInt_wrap_ofNat j (by omega)) rfl b k
  pointwise [b23, b12, e1, e2]

theorem row_apply (b : Fin 8) (t : Fin 2048) (k : Fin 1024) : b43 j s (ix3 b t k)
    = if t.val = j then b23 j s (ix2 b k) * s.main_v123_2 (ix3 b ⟨j, hj⟩ k) else s.main_v123_6 (ix3 b t k) := by
  have e1 : b38 j s (ix2 b k) = s.main_v123_2 (ix3 b ⟨j, hj⟩ k) := by
    unfold b38 b37
    exact slice_apply j hj _ _ rfl (toInt_wrap_ofNat j (by omega)) rfl b k
  pointwise [b43, b42, b41, b40, b39, b28, b27, b26, b25, b24, e1]
  have ht := t.isLt
  have e2 : IntOp.cmpi CmpIPredicate.eq (BitVec.ofNat 32 t.val) (BitVec.ofNat 32 j) = if t.val = j then 1#1 else 0#1 := by
    by_cases h0 : t.val = j
    · rw [if_pos h0, h0]
      simp [IntOp.cmpi]
    · rw [if_neg h0]
      have h1 : BitVec.ofNat 32 t.val ≠ BitVec.ofNat 32 j := fun h2 => h0 (by
        have h3 := congrArg BitVec.toNat h2
        simp only [BitVec.toNat_ofNat] at h3
        omega)
      show BitVec.ofBool (BitVec.ofNat 32 t.val == BitVec.ofNat 32 j) = 0#1
      rw [beq_eq_false_iff_ne.2 h1]
      rfl
  show Scalar.select (IntOp.cmpi CmpIPredicate.eq (BitVec.ofNat 32 t.val) (BitVec.ofNat 32 j)) _ _ = _
  rw [e2]
  split
  · rfl
  · rfl

end

section

variable (h : Vec Ideal S8x2048x1024 .f32) (g : Vec Ideal S4x1024 .f32) (wi : Vec Ideal S2x1024x2048 .f32) (bi : Vec Ideal S2x2048 .f32)
  (cw : Vec Ideal S2x4x1024 .f32) (cb : Vec Ideal S2x1024 .f32) (wa : Vec Ideal S2x8x128x128 .f32) (ba : Vec Ideal S2x8x128 .f32)
  (wx : Vec Ideal S2x8x128x128 .f32) (bx : Vec Ideal S2x8x128 .f32) (ap : Vec Ideal S2x1024 .f32) (ha : ∀ k : Fin 1024, ap (ix2 0 k) ≠ ⊥)

/-- The loop's states. -/
def iter : ℕ → State Ideal
  | 0 => init h g wi bi cw cb wa ba wx bx ap
  | n + 1 => step n (iter n)

theorem iter_const (n : ℕ) : (iter h g wi bi cw cb wa ba wx bx ap n).main_v123_0 = A_main_v113 h g wi bi cw cb wa ba wx bx ap ∧ (iter h g wi bi cw cb wa ba wx bx ap n).main_v123_1 = A_main_v120 h g wi bi cw cb wa ba wx bx ap ∧ (iter h g wi bi cw cb wa ba wx bx ap n).main_v123_2 = A_main_v37 h g wi bi cw cb wa ba wx bx ap := by
  induction n with
  | zero => exact ⟨rfl, rfl, rfl⟩
  | succ n ih => exact ih

include ha

theorem iter_state (n : ℕ) (hn : n ≤ 2048) (b : Fin 8) (k : Fin 1024) : (iter h g wi bi cw cb wa ba wx bx ap n).main_v123_5 (ix2 b k) = stateAt h g wi bi cw cb wa ba wx bx ap b k n := by
  induction n with
  | zero =>
    show K_main_v121 (F := Ideal) (ix2 b k) = 0
    pointwise [K_main_v121, K_main_cst_12]
  | succ n ih =>
    show b23 n (iter h g wi bi cw cb wa ba wx bx ap n) (ix2 b k) = _
    obtain ⟨c1, c2, c3⟩ := iter_const h g wi bi cw cb wa ba wx bx ap n
    rw [state_apply n (by omega), c1, c2, ih (by omega), a_apply h g wi bi cw cb wa ba wx bx ap ha, b_apply h g wi bi cw cb wa ba wx bx ap ha]
    rfl

theorem iter_row (n : ℕ) (hn : n ≤ 2048) (b : Fin 8) (t : Fin 2048) (ht : t.val < n) (k : Fin 1024) : (iter h g wi bi cw cb wa ba wx bx ap n).main_v123_6 (ix3 b t k) = out h g wi bi cw cb wa ba wx bx ap (ix3 b t k) := by
  induction n with
  | zero => exact absurd ht (by omega)
  | succ n ih =>
    show b43 n (iter h g wi bi cw cb wa ba wx bx ap n) (ix3 b t k) = _
    rw [row_apply n (by omega)]
    split
    · rename_i h0
      obtain rfl := h0
      have e := iter_state h g wi bi cw cb wa ba wx bx ap ha (t.val + 1) hn b k
      obtain ⟨c1, c2, c3⟩ := iter_const h g wi bi cw cb wa ba wx bx ap t.val
      rw [c3, gate_apply]
      exact congrArg (· * _) e
    · exact ih (by omega) (by omega)

/-- The reference's result. -/
theorem result_eq : R_main_v124 (iter h g wi bi cw cb wa ba wx bx ap 2048) = out h g wi bi cw cb wa ba wx bx ap := by
  funext i
  obtain ⟨b, t, k, rfl⟩ : ∃ (b : Fin 8) (t : Fin 2048) (k : Fin 1024), i = ix3 b t k := ⟨i 0, i 1, i 2, eq_ix3 i⟩
  refine Eq.trans ?_ (iter_row h g wi bi cw cb wa ba wx bx ap ha 2048 (le_refl _) b t t.isLt k)
  pointwise [R_main_v124]

end

end Cert.RecRef
-- ==== Proof.RecClaim.lean ====
module

public import proofs.«01_k».proof.Defs
public import proofs.«01_k».proof.Proof.RecFrames
public import proofs.«01_k».proof.Proof.RecGrid
public import proofs.«01_k».proof.Proof.RecRef
public import Idealize.ShloMosaic.Lib.Claim

/-! # The recurrent layer: the kernel's result is the reference's -/

@[expose] public section

noncomputable section

namespace Cert.Pre_decay_parameters_above_minus_infinity

open Idealize.ShloMosaic

/-- The precondition's shapes fit. -/
instance facts : Facts := ⟨by decide, by decide, by decide⟩

end Cert.Pre_decay_parameters_above_minus_infinity

namespace Cert.Proof.Rec

open Idealize.ShloMosaic Idealize.ShloMosaic.TcCoe Idealize.ShloMosaic.Tactic Idealize.SL.Sem
open Cert.RecSpec

section

variable (m : (ℓ : Loc Cert.KernelIdeal.nD Cert.KernelIdeal.τ Cert.KernelIdeal.sig) → Buf (Elt Ideal) ℓ)

/-- The kernel's result on a device, -/
def outK (c : Dev Cert.KernelIdeal.nD) : Vec Ideal Cert.KernelIdeal.S8x2048x1024 .bf16 := out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

/-- which every run ends with. -/
theorem value_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v30) = outK m c ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun _ h c => ⟨((h.1 c).1 9).trans (Cert.Rec.final m c), h.2.1 c⟩)
    (θ_run_and (Cert.Rec.run_main m ρ) (Cert.Rec.frame_run m ρ))

/-- The precondition says that no decay parameter of the layer is −∞. -/
theorem decay_ne_bot (hp : Cert.Pre_KernelIdeal_decay_parameters_above_minus_infinity m) (c : Dev Cert.KernelIdeal.nD) (k : Fin 1024) :
    (m ((c.tc : Thread Cert.KernelIdeal.nD Cert.KernelIdeal.τ).loc Cert.KernelIdeal.main_arg10)) (ix2 0 k) ≠ (⊥ : EReal) := by
  intro h0
  have h := congrFun (hp c) (ix1 k)
  revert h
  unfold Cert.Pre_decay_parameters_above_minus_infinity.fn
  pointwise
  rw [h0]
  rw [decide_eq_false not_lt_bot]
  decide

end

theorem frame_ideal_pre : Cert.quiescent_KernelIdeal_pre_decay_parameters_above_minus_infinity := fun m ρ _ => frame_ideal m ρ trivial

theorem frame_reference_pre : Cert.quiescent_ReferenceIdeal_pre_decay_parameters_above_minus_infinity := fun m ρ _ => frame_reference m ρ trivial

theorem algebraic : Cert.algebraic_KernelIdeal_ReferenceIdeal_pre_decay_parameters_above_minus_infinity := by
  intro m g m' g' hp hm
  refine ⟨outK m, value_run m g, (θ_run _ _ _).mono (fun r h c => ⟨(h c).1.trans ?_, (h c).2⟩)
    (Cert.ReferenceIdeal.StepRun.run_iter m' g' (fun c => Cert.RecRef.iter (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) (fun _ => rfl) (fun _ _ => rfl))⟩
  obtain ⟨e0, e1, e2, e3, e4, e5, e6, e7, e8, e9, e10⟩ := hm c
  have ha : ∀ k : Fin 1024, (m' ((c.tc : Thread Cert.ReferenceIdeal.nD Cert.ReferenceIdeal.τ).loc Cert.ReferenceIdeal.main_arg10)) (ix2 0 k) ≠ (⊥ : EReal) := fun k => by
    rw [e10]
    exact decay_ne_bot m hp c k
  refine (Cert.RecRef.result_eq _ _ _ _ _ _ _ _ _ _ _ ha).trans ?_
  rw [e0, e1, e2, e3, e4, e5, e6, e7, e8, e9, e10]
  rfl

end Cert.Proof.Rec

end
-- ==== Proof.lean ====
/- The claims of the certificate, gathered from the modules that prove them. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.ReferenceIdeal.Step
public import proofs.«01_k».proof.Proof.Gen.ReferenceIdeal.StepRun
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.MlpClaims
public import proofs.«01_k».proof.Proof.MlpInner
public import proofs.«01_k».proof.Proof.Qkv
public import proofs.«01_k».proof.Proof.RecClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_decay_parameters_above_minus_infinity.facts,
  Rec.frame_kernel, Rec.frame_ideal, Rec.frame_ideal_pre, Rec.frame_reference, Rec.frame_reference_pre,
  Mlp.frame_kernel, Mlp.frame_ideal, Mlp.frame_reference,
  MlpInner.frame_kernel, MlpInner.frame_ideal, MlpInner.frame_reference,
  Qkv.frame_kernel, Qkv.frame_ideal, Qkv.frame_reference,
  Rec.preserves, Rec.algebraic, trivial, Mlp.algebraic, trivial, MlpInner.algebraic, trivial, Qkv.algebraic⟩

end Cert.Proof

end
